-- ==== Defs.lean ====
def Pre_Kernel [hPre_lens_fit : Cert.Pre_lens_fit.Facts] (m : (ℓ : Loc Cert.Kernel.nD Cert.Kernel.τ Cert.Kernel.sig) → Buf (Elt Bits) ℓ) : Prop :=
  ∀ c : Dev Cert.Kernel.nD,
    (Cert.Pre_lens_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_lens_fit : Cert.Pre_lens_fit.Facts] (m : (ℓ : Loc Cert.KernelIdeal.nD Cert.KernelIdeal.τ Cert.KernelIdeal.sig) → Buf (Elt Ideal) ℓ) : Prop :=
  ∀ c : Dev Cert.KernelIdeal.nD,
    (Cert.Pre_lens_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_slots_finite [hPre_slots_finite : Cert.Pre_slots_finite.Facts] (m : (ℓ : Loc Cert.KernelIdeal.nD Cert.KernelIdeal.τ Cert.KernelIdeal.sig) → Buf (Elt Ideal) ℓ) : Prop :=
  ∀ c : Dev Cert.KernelIdeal.nD,
    (Cert.Pre_slots_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slots_finite [hPre_slots_finite : Cert.Pre_slots_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_lens_fit : Cert.Pre_lens_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_lens_fit : Cert.Pre_lens_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_slots_finite [hKernelIdeal : Cert.KernelIdeal.Facts] [hPre_slots_finite : Cert.Pre_slots_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_slots_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_slots_finite [hReferenceIdeal : Cert.ReferenceIdeal.Facts] [hPre_slots_finite : Cert.Pre_slots_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slots_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "dead" .f32 0xF149F2CA#32 ⊥

def algebraic_KernelIdeal_ReferenceIdeal_pre_slots_finite [hKernelIdeal : Cert.KernelIdeal.Facts] [hReferenceIdeal : Cert.ReferenceIdeal.Facts] [hPre_slots_finite : Cert.Pre_slots_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_slots_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87_0) = v0 c
          ∧ r.2.mem ((c.tc : Thread Cert.ReferenceIdeal.nD Cert.ReferenceIdeal.τ).loc Cert.ReferenceIdeal.main_v87_1) = v1 c
          ∧ r.2.mem ((c.tc : Thread Cert.ReferenceIdeal.nD Cert.ReferenceIdeal.τ).loc Cert.ReferenceIdeal.main_v87_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_lens_fit : Cert.Pre_lens_fit.Facts) (hPre_slots_finite : Cert.Pre_slots_finite.Facts),
    quiescent_Kernel (hKernel := hKernel) (hPre_lens_fit := hPre_lens_fit)
    ∧ quiescent_KernelIdeal (hKernelIdeal := hKernelIdeal) (hPre_lens_fit := hPre_lens_fit)
    ∧ quiescent_KernelIdeal_pre_slots_finite (hKernelIdeal := hKernelIdeal) (hPre_slots_finite := hPre_slots_finite)
    ∧ quiescent_ReferenceIdeal (hReferenceIdeal := hReferenceIdeal)
    ∧ quiescent_ReferenceIdeal_pre_slots_finite (hReferenceIdeal := hReferenceIdeal) (hPre_slots_finite := hPre_slots_finite)
    ∧ preserves_Kernel_KernelIdeal
    ∧ algebraic_KernelIdeal_ReferenceIdeal_pre_slots_finite (hKernelIdeal := hKernelIdeal) (hReferenceIdeal := hReferenceIdeal) (hPre_slots_finite := hPre_slots_finite)
-- ==== Pre_lens_fit.lean ====
abbrev S7x2 : Shape := ⟨2, ![7, 2]⟩
abbrev S7 : Shape := ⟨1, ![7]⟩
abbrev S32x86016 : Shape := ⟨2, ![32, 86016]⟩
abbrev S96x512 : Shape := ⟨2, ![96, 512]⟩
abbrev S512 : Shape := ⟨1, ![512]⟩
abbrev S_ : Shape := ⟨0, ![]⟩

class Facts : Prop where
  bcast_S_S7 : S_.BroadcastsInDim S7 (![] : Fin 0 → Fin S7.rank)

variable [Facts]

def fn {F : FTy → Type} [FloatOps F] (main_arg0 : FVec F S7x2 .f32) (main_arg1 : IVec S7 32) (main_arg2 : IVec S32x86016 32) (main_arg3 : FVec F S96x512 .fp8e4m3) (main_arg4 : FVec F S512 .f32) (main_arg5 : FVec F S512 .f32) : IVec S7 1 :=
  let main_c : IVec S_ 32 := constantI S_ 32 12288#32
  let main_v0 : IVec S7 32 := broadcastInDim S7 ![] bcast_S_S7 main_c
  let main_v1 : IVec S7 1 := cmpi .sle main_arg1 main_v0
  main_v1
-- ==== Pre_slots_finite.lean ====
abbrev S7x2 : Shape := ⟨2, ![7, 2]⟩
abbrev S7 : Shape := ⟨1, ![7]⟩
abbrev S32x86016 : Shape := ⟨2, ![32, 86016]⟩
abbrev S96x512 : Shape := ⟨2, ![96, 512]⟩
abbrev S512 : Shape := ⟨1, ![512]⟩
abbrev S32x7x48x2x8x16 : Shape := ⟨6, ![32, 7, 48, 2, 8, 16]⟩
abbrev S7x32x48x8x2x16 : Shape := ⟨6, ![7, 32, 48, 8, 2, 16]⟩
abbrev S7x32x12288 : Shape := ⟨3, ![7, 32, 12288]⟩
abbrev S7x6x12288 : Shape := ⟨3, ![7, 6, 12288]⟩
abbrev S_ : Shape := ⟨0, ![]⟩
abbrev S12288 : Shape := ⟨1, ![12288]⟩
abbrev S1x12288 : Shape := ⟨2, ![1, 12288]⟩
abbrev S7x1 : Shape := ⟨2, ![7, 1]⟩
abbrev S7x12288 : Shape := ⟨2, ![7, 12288]⟩
abbrev S7x1x12288 : Shape := ⟨3, ![7, 1, 12288]⟩

class Facts : Prop where
  shapeCasts_S32x86016_S32x7x48x2x8x16 : S32x86016.ShapeCasts S32x7x48x2x8x16
  transposes_S32x7x48x2x8x16_S7x32x48x8x2x16_1_0_2_4_3_5 : S32x7x48x2x8x16.Transposes [1, 0, 2, 4, 3, 5] S7x32x48x8x2x16
  shapeCasts_S7x32x48x8x2x16_S7x32x12288 : S7x32x48x8x2x16.ShapeCasts S7x32x12288
  slices_S7x32x12288_S7x6x12288_0_24_0 : S7x32x12288.Slices ![0, 24, 0] S7x6x12288
  bcast_S_S7x6x12288 : S_.BroadcastsInDim S7x6x12288 (![] : Fin 0 → Fin S7x6x12288.rank)
  bcast_S12288_S1x12288_1 : S12288.BroadcastsInDim S1x12288 (![1] : Fin 1 → Fin S1x12288.rank)
  bcast_S7_S7x1_0 : S7.BroadcastsInDim S7x1 (![0] : Fin 1 → Fin S7x1.rank)
  bcast_S1x12288_S7x12288_0_1 : S1x12288.BroadcastsInDim S7x12288 (![0, 1] : Fin 2 → Fin S7x12288.rank)
  bcast_S7x1_S7x12288_0_1 : S7x1.BroadcastsInDim S7x12288 (![0, 1] : Fin 2 → Fin S7x12288.rank)
  bcast_S_S7x2 : S_.BroadcastsInDim S7x2 (![] : Fin 0 → Fin S7x2.rank)
  bcast_S_S7 : S_.BroadcastsInDim S7 (![] : Fin 0 → Fin S7.rank)
  bcast_S7x1_S7x2_0_1 : S7x1.BroadcastsInDim S7x2 (![0, 1] : Fin 2 → Fin S7x2.rank)
  bcast_S7x12288_S7x1x12288_0_2 : S7x12288.BroadcastsInDim S7x1x12288 (![0, 2] : Fin 2 → Fin S7x1x12288.rank)
  bcast_S7x1x12288_S7x6x12288_0_1_2 : S7x1x12288.BroadcastsInDim S7x6x12288 (![0, 1, 2] : Fin 3 → Fin S7x6x12288.rank)
  reducesTo_S7x6x12288_S_d0_1_2 : S7x6x12288.ReducesTo [0, 1, 2] S_
  h_S_ : 0 < S_.numel
  reducesTo_S7x2_S_d0_1 : S7x2.ReducesTo [0, 1] S_
  reducesTo_S7_S_d0 : S7.ReducesTo [0] S_

variable [Facts]

def fn_part1 {F : FTy → Type} [FloatOps F] (main_arg1 : IVec S7 32) (main_v7 : IVec S7x6x12288 1) (main_v13 : IVec S7x12288 1) (main_v16 : IVec S7x2 1) (main_v19 : IVec S7x1 1) : IVec S_ 1 :=
  let main_v20 : IVec S7x2 1 := broadcastInDim S7x2 ![0, 1] bcast_S7x1_S7x2_0_1 main_v19
  let main_v21 : IVec S7x2 1 := ori main_v16 main_v20
  let main_v22 : IVec S7x1x12288 1 := broadcastInDim S7x1x12288 ![0, 2] bcast_S7x12288_S7x1x12288_0_2 main_v13
  let main_v23 : IVec S7x6x12288 1 := broadcastInDim S7x6x12288 ![0, 1, 2] bcast_S7x1x12288_S7x6x12288_0_1_2 main_v22
  let main_v24 : IVec S7x6x12288 1 := ori main_v7 main_v23
  let main_c_2 : IVec S_ 1 := constantI S_ 1 1#1
  let main_v25 : IVec S_ 1 := (fun x v => Host.reduce IntOp.andi x v reducesTo_S7x6x12288_S_d0_1_2 h_S_) main_v24 main_c_2
  let main_c_3 : IVec S_ 1 := constantI S_ 1 1#1
  let main_v26 : IVec S_ 1 := (fun x v => Host.reduce IntOp.andi x v reducesTo_S7x2_S_d0_1 h_S_) main_v21 main_c_3
  let main_v27 : IVec S_ 1 := andi main_v25 main_v26
  let main_c_4 : IVec S_ 32 := constantI S_ 32 12288#32
  let main_v28 : IVec S7 32 := broadcastInDim S7 ![] bcast_S_S7 main_c_4
  let main_v29 : IVec S7 1 := cmpi .sle main_arg1 main_v28
  let main_c_5 : IVec S_ 1 := constantI S_ 1 1#1
  let main_v30 : IVec S_ 1 := (fun x v => Host.reduce IntOp.andi x v reducesTo_S7_S_d0 h_S_) main_v29 main_c_5
  let main_v31 : IVec S_ 1 := andi main_v27 main_v30
  main_v31

def fn {F : FTy → Type} [FloatOps F] (main_arg0 : FVec F S7x2 .f32) (main_arg1 : IVec S7 32) (main_arg2 : IVec S32x86016 32) (main_arg3 : FVec F S96x512 .fp8e4m3) (main_arg4 : FVec F S512 .f32) (main_arg5 : FVec F S512 .f32) : IVec S_ 1 :=
  let main_v0 : IVec S32x7x48x2x8x16 32 := shapeCast S32x7x48x2x8x16 main_arg2 shapeCasts_S32x86016_S32x7x48x2x8x16
  let main_v1 : IVec S7x32x48x8x2x16 32 := (transpose S7x32x48x8x2x16 [1, 0, 2, 4, 3, 5] · transposes_S32x7x48x2x8x16_S7x32x48x8x2x16_1_0_2_4_3_5) main_v0
  let main_v2 : IVec S7x32x12288 32 := shapeCast S7x32x12288 main_v1 shapeCasts_S7x32x48x8x2x16_S7x32x12288
  let main_v3 : IVec S7x6x12288 32 := (extractStridedSlice S7x6x12288 ![0, 24, 0] · slices_S7x32x12288_S7x6x12288_0_24_0) main_v2
  let main_c : IVec S_ 32 := constantI S_ 32 2139095040#32
  let main_v4 : IVec S7x6x12288 32 := broadcastInDim S7x6x12288 ![] bcast_S_S7x6x12288 main_c
  let main_v5 : IVec S7x6x12288 32 := andi main_v3 main_v4
  let main_c_0 : IVec S_ 32 := constantI S_ 32 2139095040#32
  let main_v6 : IVec S7x6x12288 32 := broadcastInDim S7x6x12288 ![] bcast_S_S7x6x12288 main_c_0
  let main_v7 : IVec S7x6x12288 1 := cmpi .ne main_v5 main_v6
  let main_v8 : IVec S12288 32 := iotaInDim S12288 32 0
  let main_v9 : IVec S1x12288 32 := broadcastInDim S1x12288 ![1] bcast_S12288_S1x12288_1 main_v8
  let main_v10 : IVec S7x1 32 := broadcastInDim S7x1 ![0] bcast_S7_S7x1_0 main_arg1
  let main_v11 : IVec S7x12288 32 := broadcastInDim S7x12288 ![0, 1] bcast_S1x12288_S7x12288_0_1 main_v9
  let main_v12 : IVec S7x12288 32 := broadcastInDim S7x12288 ![0, 1] bcast_S7x1_S7x12288_0_1 main_v10
  let main_v13 : IVec S7x12288 1 := cmpi .sge main_v11 main_v12
  let main_v14 : FVec F S7x2 .f32 := Host.absf main_arg0
  let main_cst : FVec F S_ .f32 := constant S_ .f32 0x7F800000#32
  let main_v15 : FVec F S7x2 .f32 := broadcastInDim S7x2 ![] bcast_S_S7x2 main_cst
  let main_v16 : IVec S7x2 1 := cmpf .olt main_v14 main_v15
  let main_c_1 : IVec S_ 32 := constantI S_ 32 0#32
  let main_v17 : IVec S7 32 := broadcastInDim S7 ![] bcast_S_S7 main_c_1
  let main_v18 : IVec S7 1 := cmpi .sle main_arg1 main_v17
  let main_v19 : IVec S7x1 1 := broadcastInDim S7x1 ![0] bcast_S7_S7x1_0 main_v18
  fn_part1 (F := F) main_arg1 main_v7 main_v13 main_v16 main_v19
-- ==== Kernel.lean ====
abbrev S7x2 : Shape := ⟨2, ![7, 2]⟩
abbrev S7 : Shape := ⟨1, ![7]⟩
abbrev S32x86016 : Shape := ⟨2, ![32, 86016]⟩
abbrev S96x512 : Shape := ⟨2, ![96, 512]⟩
abbrev S512 : Shape := ⟨1, ![512]⟩
abbrev S32x256 : Shape := ⟨2, ![32, 256]⟩
abbrev S1x512 : Shape := ⟨2, ![1, 512]⟩
abbrev S7x256x512 : Shape := ⟨3, ![7, 256, 512]⟩
abbrev S7x96x256 : Shape := ⟨3, ![7, 96, 256]⟩
abbrev S7x1x256 : Shape := ⟨3, ![7, 1, 256]⟩
abbrev S32x12288 : Shape := ⟨2, ![32, 12288]⟩
abbrev S1x256x512 : Shape := ⟨3, ![1, 256, 512]⟩
abbrev S1x96x256 : Shape := ⟨3, ![1, 96, 256]⟩
abbrev S1x1x256 : Shape := ⟨3, ![1, 1, 256]⟩
abbrev S96x256 : Shape := ⟨2, ![96, 256]⟩
abbrev S8x256 : Shape := ⟨2, ![8, 256]⟩
abbrev S1 : Shape := ⟨1, ![1]⟩
abbrev S1x1 : Shape := ⟨2, ![1, 1]⟩
abbrev S8x128 : Shape := ⟨2, ![8, 128]⟩
abbrev S1x256 : Shape := ⟨2, ![1, 256]⟩
abbrev S24x256 : Shape := ⟨2, ![24, 256]⟩
abbrev S8x128x1 : Shape := ⟨3, ![8, 128, 1]⟩
abbrev S6x256 : Shape := ⟨2, ![6, 256]⟩
abbrev S14x256 : Shape := ⟨2, ![14, 256]⟩
abbrev S256x256 : Shape := ⟨2, ![256, 256]⟩
abbrev S128x256 : Shape := ⟨2, ![128, 256]⟩
abbrev S256x128 : Shape := ⟨2, ![256, 128]⟩
abbrev S1x128 : Shape := ⟨2, ![1, 128]⟩
abbrev S256 : Shape := ⟨1, ![256]⟩
abbrev S256x1 : Shape := ⟨2, ![256, 1]⟩
abbrev S256x96 : Shape := ⟨2, ![256, 96]⟩
abbrev S256x512 : Shape := ⟨2, ![256, 512]⟩

abbrev nBuf : Space → Nat
  | .hbm => 12
  | .vmem => 14
  | .smem => 2
  | _ => 0

abbrev bufTy : (tb : Table) → Fin (tcTables nBuf tb) → BufTy
  | .hbm, ⟨0, _⟩ => ⟨S7x2, .f32⟩
  | .hbm, ⟨1, _⟩ => ⟨S7, .i32⟩
  | .hbm, ⟨2, _⟩ => ⟨S32x86016, .i32⟩
  | .hbm, ⟨3, _⟩ => ⟨S96x512, .fp8e4m3⟩
  | .hbm, ⟨4, _⟩ => ⟨S512, .f32⟩
  | .hbm, ⟨5, _⟩ => ⟨S512, .f32⟩
  | .hbm, ⟨6, _⟩ => ⟨S32x256, .bf16⟩
  | .hbm, ⟨7, _⟩ => ⟨S1x512, .f32⟩
  | .hbm, ⟨8, _⟩ => ⟨S1x512, .f32⟩
  | .hbm, ⟨9, _⟩ => ⟨S7x256x512, .bf16⟩
  | .hbm, ⟨10, _⟩ => ⟨S7x96x256, .fp8e4m3⟩
  | .hbm, ⟨11, _⟩ => ⟨S7x1x256, .f32⟩
  | .local _ .vmem, ⟨0, _⟩ => ⟨S32x12288, .i32⟩
  | .local _ .vmem, ⟨1, _⟩ => ⟨S32x12288, .i32⟩
  | .local _ .vmem, ⟨2, _⟩ => ⟨S32x256, .bf16⟩
  | .local _ .vmem, ⟨3, _⟩ => ⟨S96x512, .fp8e4m3⟩
  | .local _ .vmem, ⟨4, _⟩ => ⟨S1x512, .f32⟩
  | .local _ .vmem, ⟨5, _⟩ => ⟨S1x512, .f32⟩
  | .local _ .vmem, ⟨6, _⟩ => ⟨S1x256x512, .bf16⟩
  | .local _ .vmem, ⟨7, _⟩ => ⟨S1x256x512, .bf16⟩
  | .local _ .vmem, ⟨8, _⟩ => ⟨S1x96x256, .fp8e4m3⟩
  | .local _ .vmem, ⟨9, _⟩ => ⟨S1x96x256, .fp8e4m3⟩
  | .local _ .vmem, ⟨10, _⟩ => ⟨S1x1x256, .f32⟩
  | .local _ .vmem, ⟨11, _⟩ => ⟨S1x1x256, .f32⟩
  | .local _ .vmem, ⟨12, _⟩ => ⟨S96x256, .f32⟩
  | .local _ .vmem, ⟨13, _⟩ => ⟨S8x256, .f32⟩
  | .local _ .smem, ⟨0, _⟩ => ⟨S7x2, .f32⟩
  | .local _ .smem, ⟨1, _⟩ => ⟨S7, .i32⟩
  | _, _ => ⟨S7x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![7], ![false]⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 2 → Nat :=
  let arg0 : BitVec 32 := BitVec.ofNat 32 (i 0).val
  let v2 : Index := Scalar.indexCast arg0
  let c0 : Index := 0#32
  ![v2.toNat, 0]
def k0_off3 (i : grid0.Coords) : Fin 2 → Nat :=
  let arg0 : BitVec 32 := BitVec.ofNat 32 (i 0).val
  let v5 : Index := Scalar.indexCast arg0
  let c1 : Index := 1#32
  ![v5.toNat, 1]
@[reducible] def k0_t1_loop (v1 : BitVec 32) : Scf.Loop 32 :=
  let c0_i32_43 : BitVec 32 := 0#32
  let c255_i32 : BitVec 32 := 255#32
  let v148 : BitVec 32 := Scalar.addi v1 c255_i32
  let c256_i32 : BitVec 32 := 256#32
  let v149 : BitVec 32 := Scalar.divsi v148 c256_i32
  let v150 : BitVec 32 := Scalar.subi v149 c0_i32_43
  let c1_i32_45 : BitVec 32 := 1#32
  let v152 : BitVec 32 := Scalar.divsi v150 c1_i32_45
  let v153 : BitVec 32 := Scalar.muli v152 c1_i32_45
  let v154 : BitVec 32 := Scalar.addi c0_i32_43 v153
  let c1_i32_46 : BitVec 32 := 1#32
  ⟨c0_i32_43, v154, c1_i32_46⟩

def k0_mult1 (v1 : BitVec 32) (k0_t1 : Fin (k0_t1_loop v1).trips) : BitVec 32 :=
  let c0_i32_43 : BitVec 32 := 0#32
  let c1_i32_46 : BitVec 32 := 1#32
  let arg13 : BitVec 32 := Scf.iv c0_i32_43 c1_i32_46 k0_t1
  let c256_i32_109 : BitVec 32 := 256#32
  let v306 : BitVec 32 := Scalar.muli arg13 c256_i32_109
  v306
def k0_off4 (v1 : BitVec 32) (k0_t1 : Fin (k0_t1_loop v1).trips) : Fin 2 → Nat :=
  let c0_110 : Index := 0#32
  let c0_i32_43 : BitVec 32 := 0#32
  let c1_i32_46 : BitVec 32 := 1#32
  let arg13 : BitVec 32 := Scf.iv c0_i32_43 c1_i32_46 k0_t1
  let c256_i32_109 : BitVec 32 := 256#32
  let v306 : BitVec 32 := Scalar.muli arg13 c256_i32_109
  let v307 : BitVec 32 := v306
  let v308 : Index := Scalar.indexCast v307
  ![0, v308.toNat]
def k0_mult2 (v1 : BitVec 32) (k0_t1 : Fin (k0_t1_loop v1).trips) : BitVec 32 :=
  let c0_i32_43 : BitVec 32 := 0#32
  let c1_i32_46 : BitVec 32 := 1#32
  let arg13 : BitVec 32 := Scf.iv c0_i32_43 c1_i32_46 k0_t1
  let c256_i32_123 : BitVec 32 := 256#32
  let v368 : BitVec 32 := Scalar.muli arg13 c256_i32_123
  v368
def k0_off5 (v1 : BitVec 32) (k0_t1 : Fin (k0_t1_loop v1).trips) : Fin 2 → Nat :=
  let c24 : Index := 24#32
  let c0_i32_43 : BitVec 32 := 0#32
  let c1_i32_46 : BitVec 32 := 1#32
  let arg13 : BitVec 32 := Scf.iv c0_i32_43 c1_i32_46 k0_t1
  let c256_i32_123 : BitVec 32 := 256#32
  let v368 : BitVec 32 := Scalar.muli arg13 c256_i32_123
  let v369 : BitVec 32 := v368
  let v370 : Index := Scalar.indexCast v369
  ![24, v370.toNat]
@[reducible] def k0_t2_loop (v1 : BitVec 32) : Scf.Loop 32 :=
  let c0_i32_43 : BitVec 32 := 0#32
  let c255_i32 : BitVec 32 := 255#32
  let v148 : BitVec 32 := Scalar.addi v1 c255_i32
  let c256_i32 : BitVec 32 := 256#32
  let v149 : BitVec 32 := Scalar.divsi v148 c256_i32
  let v150 : BitVec 32 := Scalar.subi v149 c0_i32_43
  let c1_i32_45 : BitVec 32 := 1#32
  let v152 : BitVec 32 := Scalar.divsi v150 c1_i32_45
  let v153 : BitVec 32 := Scalar.muli v152 c1_i32_45
  let v154 : BitVec 32 := Scalar.addi c0_i32_43 v153
  let v151 : BitVec 32 := Scalar.addi c0_i32_43 v150
  let c1_i32_47 : BitVec 32 := 1#32
  ⟨v154, v151, c1_i32_47⟩
def k0_mult3 (v1 : BitVec 32) (k0_t2 : Fin (k0_t2_loop v1).trips) : BitVec 32 :=
  let c0_i32_43 : BitVec 32 := 0#32
  let c255_i32 : BitVec 32 := 255#32
  let v148 : BitVec 32 := Scalar.addi v1 c255_i32
  let c256_i32 : BitVec 32 := 256#32
  let v149 : BitVec 32 := Scalar.divsi v148 c256_i32
  let v150 : BitVec 32 := Scalar.subi v149 c0_i32_43
  let c1_i32_45 : BitVec 32 := 1#32
  let v152 : BitVec 32 := Scalar.divsi v150 c1_i32_45
  let v153 : BitVec 32 := Scalar.muli v152 c1_i32_45
  let v154 : BitVec 32 := Scalar.addi c0_i32_43 v153
  let c1_i32_47 : BitVec 32 := 1#32
  let arg13 : BitVec 32 := Scf.iv v154 c1_i32_47 k0_t2
  let c256_i32_109 : BitVec 32 := 256#32
  let v306 : BitVec 32 := Scalar.muli arg13 c256_i32_109
  v306
def k0_off6 (v1 : BitVec 32) (k0_t2 : Fin (k0_t2_loop v1).trips) : Fin 2 → Nat :=
  let c0_110 : Index := 0#32
  let c0_i32_43 : BitVec 32 := 0#32
  let c255_i32 : BitVec 32 := 255#32
  let v148 : BitVec 32 := Scalar.addi v1 c255_i32
  let c256_i32 : BitVec 32 := 256#32
  let v149 : BitVec 32 := Scalar.divsi v148 c256_i32
  let v150 : BitVec 32 := Scalar.subi v149 c0_i32_43
  let c1_i32_45 : BitVec 32 := 1#32
  let v152 : BitVec 32 := Scalar.divsi v150 c1_i32_45
  let v153 : BitVec 32 := Scalar.muli v152 c1_i32_45
  let v154 : BitVec 32 := Scalar.addi c0_i32_43 v153
  let c1_i32_47 : BitVec 32 := 1#32
  let arg13 : BitVec 32 := Scf.iv v154 c1_i32_47 k0_t2
  let c256_i32_109 : BitVec 32 := 256#32
  let v306 : BitVec 32 := Scalar.muli arg13 c256_i32_109
  let v307 : BitVec 32 := v306
  let v308 : Index := Scalar.indexCast v307
  ![0, v308.toNat]
def k0_mult4 (v1 : BitVec 32) (k0_t2 : Fin (k0_t2_loop v1).trips) : BitVec 32 :=
  let c0_i32_43 : BitVec 32 := 0#32
  let c255_i32 : BitVec 32 := 255#32
  let v148 : BitVec 32 := Scalar.addi v1 c255_i32
  let c256_i32 : BitVec 32 := 256#32
  let v149 : BitVec 32 := Scalar.divsi v148 c256_i32
  let v150 : BitVec 32 := Scalar.subi v149 c0_i32_43
  let c1_i32_45 : BitVec 32 := 1#32
  let v152 : BitVec 32 := Scalar.divsi v150 c1_i32_45
  let v153 : BitVec 32 := Scalar.muli v152 c1_i32_45
  let v154 : BitVec 32 := Scalar.addi c0_i32_43 v153
  let c1_i32_47 : BitVec 32 := 1#32
  let arg13 : BitVec 32 := Scf.iv v154 c1_i32_47 k0_t2
  let c256_i32_123 : BitVec 32 := 256#32
  let v368 : BitVec 32 := Scalar.muli arg13 c256_i32_123
  v368
def k0_off7 (v1 : BitVec 32) (k0_t2 : Fin (k0_t2_loop v1).trips) : Fin 2 → Nat :=
  let c24 : Index := 24#32
  let c0_i32_43 : BitVec 32 := 0#32
  let c255_i32 : BitVec 32 := 255#32
  let v148 : BitVec 32 := Scalar.addi v1 c255_i32
  let c256_i32 : BitVec 32 := 256#32
  let v149 : BitVec 32 := Scalar.divsi v148 c256_i32
  let v150 : BitVec 32 := Scalar.subi v149 c0_i32_43
  let c1_i32_45 : BitVec 32 := 1#32
  let v152 : BitVec 32 := Scalar.divsi v150 c1_i32_45
  let v153 : BitVec 32 := Scalar.muli v152 c1_i32_45
  let v154 : BitVec 32 := Scalar.addi c0_i32_43 v153
  let c1_i32_47 : BitVec 32 := 1#32
  let arg13 : BitVec 32 := Scf.iv v154 c1_i32_47 k0_t2
  let c256_i32_123 : BitVec 32 := 256#32
  let v368 : BitVec 32 := Scalar.muli arg13 c256_i32_123
  let v369 : BitVec 32 := v368
  let v370 : Index := Scalar.indexCast v369
  ![24, v370.toNat]

def k0_chk1 (v1 : BitVec 32) : Prop :=
  ((k0_t1_loop v1).OK) ∧
  (∀ k0_t1 : Fin (k0_t1_loop v1).trips, 256 ∣ (k0_mult1 v1 k0_t1).toNat) ∧
  (∀ k0_t1 : Fin (k0_t1_loop v1).trips, ∀ a, (k0_off4 v1 k0_t1) a + S24x256.size a ≤ S32x12288.size a) ∧
  (∀ k0_t1 : Fin (k0_t1_loop v1).trips, 256 ∣ (k0_mult2 v1 k0_t1).toNat) ∧
  (∀ k0_t1 : Fin (k0_t1_loop v1).trips, ∀ a, (k0_off5 v1 k0_t1) a + S8x256.size a ≤ S32x12288.size a) ∧
  ((k0_t2_loop v1).OK) ∧
  (∀ k0_t2 : Fin (k0_t2_loop v1).trips, 256 ∣ (k0_mult3 v1 k0_t2).toNat) ∧
  (∀ k0_t2 : Fin (k0_t2_loop v1).trips, ∀ a, (k0_off6 v1 k0_t2) a + S24x256.size a ≤ S32x12288.size a) ∧
  (∀ k0_t2 : Fin (k0_t2_loop v1).trips, 256 ∣ (k0_mult4 v1 k0_t2).toNat) ∧
  (∀ k0_t2 : Fin (k0_t2_loop v1).trips, ∀ a, (k0_off7 v1 k0_t2) a + S8x256.size a ≤ S32x12288.size a)
theorem k0_t1_ok : ∀ (v1 : BitVec 32) (k0_hw1 : k0_chk1 v1), (k0_t1_loop v1).OK := fun v1 k0_hw1 => k0_hw1.1
theorem k0_mult1_dvd : ∀ (v1 : BitVec 32) (k0_hw1 : k0_chk1 v1) (k0_t1 : Fin (k0_t1_loop v1).trips), 256 ∣ (k0_mult1 v1 k0_t1).toNat := fun v1 k0_hw1 k0_t1 => k0_hw1.2.1 k0_t1
theorem k0_off4_inb : ∀ (v1 : BitVec 32) (k0_hw1 : k0_chk1 v1) (k0_t1 : Fin (k0_t1_loop v1).trips), ∀ a, (k0_off4 v1 k0_t1) a + S24x256.size a ≤ S32x12288.size a := fun v1 k0_hw1 k0_t1 => k0_hw1.2.2.1 k0_t1
theorem k0_mult2_dvd : ∀ (v1 : BitVec 32) (k0_hw1 : k0_chk1 v1) (k0_t1 : Fin (k0_t1_loop v1).trips), 256 ∣ (k0_mult2 v1 k0_t1).toNat := fun v1 k0_hw1 k0_t1 => k0_hw1.2.2.2.1 k0_t1
theorem k0_off5_inb : ∀ (v1 : BitVec 32) (k0_hw1 : k0_chk1 v1) (k0_t1 : Fin (k0_t1_loop v1).trips), ∀ a, (k0_off5 v1 k0_t1) a + S8x256.size a ≤ S32x12288.size a := fun v1 k0_hw1 k0_t1 => k0_hw1.2.2.2.2.1 k0_t1
theorem k0_t2_ok : ∀ (v1 : BitVec 32) (k0_hw1 : k0_chk1 v1), (k0_t2_loop v1).OK := fun v1 k0_hw1 => k0_hw1.2.2.2.2.2.1
theorem k0_mult3_dvd : ∀ (v1 : BitVec 32) (k0_hw1 : k0_chk1 v1) (k0_t2 : Fin (k0_t2_loop v1).trips), 256 ∣ (k0_mult3 v1 k0_t2).toNat := fun v1 k0_hw1 k0_t2 => k0_hw1.2.2.2.2.2.2.1 k0_t2
theorem k0_off6_inb : ∀ (v1 : BitVec 32) (k0_hw1 : k0_chk1 v1) (k0_t2 : Fin (k0_t2_loop v1).trips), ∀ a, (k0_off6 v1 k0_t2) a + S24x256.size a ≤ S32x12288.size a := fun v1 k0_hw1 k0_t2 => k0_hw1.2.2.2.2.2.2.2.1 k0_t2
theorem k0_mult4_dvd : ∀ (v1 : BitVec 32) (k0_hw1 : k0_chk1 v1) (k0_t2 : Fin (k0_t2_loop v1).trips), 256 ∣ (k0_mult4 v1 k0_t2).toNat := fun v1 k0_hw1 k0_t2 => k0_hw1.2.2.2.2.2.2.2.2.1 k0_t2
theorem k0_off7_inb : ∀ (v1 : BitVec 32) (k0_hw1 : k0_chk1 v1) (k0_t2 : Fin (k0_t2_loop v1).trips), ∀ a, (k0_off7 v1 k0_t2) a + S8x256.size a ≤ S32x12288.size a := fun v1 k0_hw1 k0_t2 => k0_hw1.2.2.2.2.2.2.2.2.2 k0_t2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S7x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S7 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x12288 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x96x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "dead" => some ⊥
  | "log2e" => some (((Real.log 2)⁻¹ : ℝ) : EReal)
  | _ => none
-- ==== ReferenceIdeal.lean ====
abbrev S7x2 : Shape := ⟨2, ![7, 2]⟩
abbrev S7 : Shape := ⟨1, ![7]⟩
abbrev S32x86016 : Shape := ⟨2, ![32, 86016]⟩
abbrev S96x512 : Shape := ⟨2, ![96, 512]⟩
abbrev S512 : Shape := ⟨1, ![512]⟩
abbrev S32x7x48x2x8x16 : Shape := ⟨6, ![32, 7, 48, 2, 8, 16]⟩
abbrev S7x32x48x8x2x16 : Shape := ⟨6, ![7, 32, 48, 8, 2, 16]⟩
abbrev S7x32x12288 : Shape := ⟨3, ![7, 32, 12288]⟩
abbrev S7x7x12288 : Shape := ⟨3, ![7, 7, 12288]⟩
abbrev S7x1x12288 : Shape := ⟨3, ![7, 1, 12288]⟩
abbrev S7x12288 : Shape := ⟨2, ![7, 12288]⟩
abbrev S256 : Shape := ⟨1, ![256]⟩
abbrev S_ : Shape := ⟨0, ![]⟩
abbrev S1x256 : Shape := ⟨2, ![1, 256]⟩
abbrev S7x1 : Shape := ⟨2, ![7, 1]⟩
abbrev S7x256 : Shape := ⟨2, ![7, 256]⟩
abbrev S7x256x1 : Shape := ⟨3, ![7, 256, 1]⟩
abbrev S7x256x12288 : Shape := ⟨3, ![7, 256, 12288]⟩
abbrev S12288 : Shape := ⟨1, ![12288]⟩
abbrev S1x12288 : Shape := ⟨2, ![1, 12288]⟩
abbrev S7x24x12288 : Shape := ⟨3, ![7, 24, 12288]⟩
abbrev S1x512 : Shape := ⟨2, ![1, 512]⟩
abbrev S7x256x512 : Shape := ⟨3, ![7, 256, 512]⟩
abbrev S7x96x256 : Shape := ⟨3, ![7, 96, 256]⟩
abbrev S7x1x256 : Shape := ⟨3, ![7, 1, 256]⟩
abbrev S7x96x12288 : Shape := ⟨3, ![7, 96, 12288]⟩
abbrev S7x256x96 : Shape := ⟨3, ![7, 256, 96]⟩
abbrev S1792x96 : Shape := ⟨2, ![1792, 96]⟩
abbrev S1792x512 : Shape := ⟨2, ![1792, 512]⟩
abbrev S1x1x512 : Shape := ⟨3, ![1, 1, 512]⟩

abbrev nBuf : Space → Nat
  | .hbm => 144
  | .vmem => 9
  | .smem => 0
  | _ => 0

abbrev hbmTy0_0 (i : Nat) : BufTy := match i % 128 with
  | 0 => ⟨S7x2, .f32⟩
  | 1 => ⟨S7, .i32⟩
  | 2 => ⟨S32x86016, .i32⟩
  | 3 => ⟨S96x512, .fp8e4m3⟩
  | 4 => ⟨S512, .f32⟩
  | 5 => ⟨S512, .f32⟩
  | 6 => ⟨S32x7x48x2x8x16, .i32⟩
  | 7 => ⟨S7x32x48x8x2x16, .i32⟩
  | 8 => ⟨S7x32x12288, .i32⟩
  | 9 => ⟨S7x7x12288, .i32⟩
  | 10 => ⟨S7x7x12288, .f32⟩
  | 11 => ⟨S7x1x12288, .f32⟩
  | 12 => ⟨S7x12288, .f32⟩
  | 13 => ⟨S7x1x12288, .f32⟩
  | 14 => ⟨S7x1x12288, .f32⟩
  | 15 => ⟨S7x12288, .f32⟩
  | 16 => ⟨S7x1x12288, .f32⟩
  | 17 => ⟨S7x1x12288, .f32⟩
  | 18 => ⟨S7x12288, .f32⟩
  | 19 => ⟨S7x1x12288, .f32⟩
  | 20 => ⟨S7x1x12288, .f32⟩
  | 21 => ⟨S7x12288, .f32⟩
  | 22 => ⟨S7x1x12288, .f32⟩
  | 23 => ⟨S7x1x12288, .f32⟩
  | 24 => ⟨S7x12288, .f32⟩
  | 25 => ⟨S7x1x12288, .f32⟩
  | 26 => ⟨S7x1x12288, .f32⟩
  | 27 => ⟨S7x12288, .f32⟩
  | 28 => ⟨S7x1x12288, .f32⟩
  | 29 => ⟨S7x1x12288, .f32⟩
  | 30 => ⟨S256, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S256, .i32⟩
  | 38 => ⟨S256, .i32⟩
  | 39 => ⟨S_, .i32⟩
  | 40 => ⟨S256, .i32⟩
  | 41 => ⟨S256, .i1⟩
  | 42 => ⟨S_, .i32⟩
  | 43 => ⟨S256, .i32⟩
  | 44 => ⟨S256, .i1⟩
  | 45 => ⟨S_, .i32⟩
  | 46 => ⟨S_, .i1⟩
  | 47 => ⟨S256, .i1⟩
  | 48 => ⟨S256, .i1⟩
  | 49 => ⟨S256, .i1⟩
  | 50 => ⟨S256, .i32⟩
  | 51 => ⟨S256, .i32⟩
  | 52 => ⟨S256, .i32⟩
  | 53 => ⟨S256, .f32⟩
  | 54 => ⟨S_, .f32⟩
  | 55 => ⟨S256, .f32⟩
  | 56 => ⟨S256, .f32⟩
  | 57 => ⟨S_, .i32⟩
  | 58 => ⟨S_, .i32⟩
  | 59 => ⟨S256, .i32⟩
  | 60 => ⟨S256, .i32⟩
  | 61 => ⟨S256, .i32⟩
  | 62 => ⟨S_, .i32⟩
  | 63 => ⟨S256, .i32⟩
  | 64 => ⟨S256, .i1⟩
  | 65 => ⟨S256, .i32⟩
  | 66 => ⟨S256, .i32⟩
  | 67 => ⟨S_, .i32⟩
  | 68 => ⟨S256, .i32⟩
  | 69 => ⟨S256, .i1⟩
  | 70 => ⟨S256, .i1⟩
  | 71 => ⟨S_, .i32⟩
  | 72 => ⟨S256, .i32⟩
  | 73 => ⟨S256, .i32⟩
  | 74 => ⟨S256, .i32⟩
  | 75 => ⟨S256, .f32⟩
  | 76 => ⟨S_, .f32⟩
  | 77 => ⟨S256, .f32⟩
  | 78 => ⟨S256, .f32⟩
  | 79 => ⟨S1x256, .f32⟩
  | 80 => ⟨S7x1, .f32⟩
  | 81 => ⟨S7x256, .f32⟩
  | 82 => ⟨S7x256, .f32⟩
  | 83 => ⟨S7x256, .f32⟩
  | 84 => ⟨S1x256, .f32⟩
  | 85 => ⟨S7x1, .f32⟩
  | 86 => ⟨S7x256, .f32⟩
  | 87 => ⟨S7x256, .f32⟩
  | 88 => ⟨S7x256, .f32⟩
  | 89 => ⟨S7x256x1, .f32⟩
  | 90 => ⟨S7x256x12288, .f32⟩
  | 91 => ⟨S7x256x12288, .f32⟩
  | 92 => ⟨S7x256x12288, .f32⟩
  | 93 => ⟨S7x256x1, .f32⟩
  | 94 => ⟨S7x256x12288, .f32⟩
  | 95 => ⟨S7x256x12288, .f32⟩
  | 96 => ⟨S7x256x12288, .f32⟩
  | 97 => ⟨S7x256x12288, .f32⟩
  | 98 => ⟨S7x256x12288, .f32⟩
  | 99 => ⟨S7x256x12288, .f32⟩
  | 100 => ⟨S7x256x12288, .f32⟩
  | 101 => ⟨S7x256x12288, .f32⟩
  | 102 => ⟨S7x256x12288, .f32⟩
  | 103 => ⟨S7x256x12288, .f32⟩
  | 104 => ⟨S_, .f32⟩
  | 105 => ⟨S7x256x12288, .f32⟩
  | 106 => ⟨S7x256x12288, .f32⟩
  | 107 => ⟨S7x256x12288, .f32⟩
  | 108 => ⟨S7x256x12288, .f32⟩
  | 109 => ⟨S7x256x12288, .f32⟩
  | 110 => ⟨S7x256x12288, .f32⟩
  | 111 => ⟨S7x256x12288, .f32⟩
  | 112 => ⟨S7x256x12288, .f32⟩
  | 113 => ⟨S7x256x12288, .f32⟩
  | 114 => ⟨S_, .f32⟩
  | 115 => ⟨S7x256x12288, .f32⟩
  | 116 => ⟨S7x256x12288, .f32⟩
  | 117 => ⟨S12288, .i32⟩
  | 118 => ⟨S1x12288, .i32⟩
  | 119 => ⟨S7x1, .i32⟩
  | 120 => ⟨S7x12288, .i32⟩
  | 121 => ⟨S7x12288, .i32⟩
  | 122 => ⟨S7x12288, .i1⟩
  | 123 => ⟨S7x1x12288, .i1⟩
  | 124 => ⟨S_, .f32⟩
  | 125 => ⟨S_, .f32⟩
  | 126 => ⟨S7x256x12288, .i1⟩
  | 127 => ⟨S7x256x12288, .f32⟩
  | _ => ⟨S7x2, .f32⟩

abbrev hbmTy0_1 (i : Nat) : BufTy := match i % 128 with
  | 0 => ⟨S7x256x12288, .f32⟩
  | 1 => ⟨S7x256x12288, .f32⟩
  | 2 => ⟨S7x256x12288, .f32⟩
  | 3 => ⟨S_, .f32⟩
  | 4 => ⟨S_, .f32⟩
  | 5 => ⟨S7x256x12288, .f32⟩
  | 6 => ⟨S7x256x12288, .f32⟩
  | 7 => ⟨S7x256x12288, .f32⟩
  | 8 => ⟨S7x256x12288, .f32⟩
  | 9 => ⟨S7x256x12288, .bf16⟩
  | 10 => ⟨S7x24x12288, .i32⟩
  | 11 => ⟨S1x512, .f32⟩
  | 12 => ⟨S1x512, .f32⟩
  | 13 => ⟨S7x256x512, .bf16⟩
  | 14 => ⟨S7x96x256, .fp8e4m3⟩
  | 15 => ⟨S7x1x256, .f32⟩
  | _ => ⟨S7x2, .f32⟩

abbrev hbmTy (i : Nat) : BufTy := match i / 128 with
  | 0 => hbmTy0_0 i
  | 1 => hbmTy0_1 i
  | _ => ⟨S7x2, .f32⟩

abbrev bufTy : (tb : Table) → Fin (tcTables nBuf tb) → BufTy
  | .hbm, ⟨i, _⟩ => hbmTy i
  | .local _ .vmem, ⟨0, _⟩ => ⟨S7x24x12288, .i32⟩
  | .local _ .vmem, ⟨1, _⟩ => ⟨S7x1x12288, .f32⟩
  | .local _ .vmem, ⟨2, _⟩ => ⟨S7x256x12288, .bf16⟩
  | .local _ .vmem, ⟨3, _⟩ => ⟨S96x512, .fp8e4m3⟩
  | .local _ .vmem, ⟨4, _⟩ => ⟨S1x512, .f32⟩
  | .local _ .vmem, ⟨5, _⟩ => ⟨S1x512, .f32⟩
  | .local _ .vmem, ⟨6, _⟩ => ⟨S7x256x512, .bf16⟩
  | .local _ .vmem, ⟨7, _⟩ => ⟨S7x96x256, .fp8e4m3⟩
  | .local _ .vmem, ⟨8, _⟩ => ⟨S7x1x256, .f32⟩
  | _, _ => ⟨S7x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_call0_v0 : Ref sig .tc := ⟨.hbm, 32, rfl⟩
abbrev main_call0_c : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_c_1 : Ref sig .tc := ⟨.hbm, 39, rfl⟩
abbrev main_call0_v5 : Ref sig .tc := ⟨.hbm, 40, rfl⟩
abbrev main_call0_v6 : Ref sig .tc := ⟨.hbm, 41, rfl⟩
abbrev main_call0_c_2 : Ref sig .tc := ⟨.hbm, 42, rfl⟩
abbrev main_call0_v7 : Ref sig .tc := ⟨.hbm, 43, rfl⟩
abbrev main_call0_v8 : Ref sig .tc := ⟨.hbm, 44, rfl⟩
abbrev main_call0_c_3 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_v25 : Ref sig .tc := ⟨.hbm, 52, rfl⟩
abbrev main_v26 : Ref sig .tc := ⟨.hbm, 53, rfl⟩
abbrev main_cst : Ref sig .tc := ⟨.hbm, 54, rfl⟩
abbrev main_v27 : Ref sig .tc := ⟨.hbm, 55, rfl⟩
abbrev main_v28 : Ref sig .tc := ⟨.hbm, 56, rfl⟩
abbrev main_c_0 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_c : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_0 : Ref sig .tc := ⟨.hbm, 71, rfl⟩
abbrev main_call1_v12 : Ref sig .tc := ⟨.hbm, 72, rfl⟩
abbrev main_call1_v13 : Ref sig .tc := ⟨.hbm, 73, rfl⟩
abbrev main_v29 : Ref sig .tc := ⟨.hbm, 74, rfl⟩
abbrev main_v30 : Ref sig .tc := ⟨.hbm, 75, rfl⟩
abbrev main_cst_1 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_2 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_cst_3 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_cst_4 : Ref sig .tc := ⟨.hbm, 124, rfl⟩
abbrev main_call2_v0 : Ref sig .tc := ⟨.hbm, 125, rfl⟩
abbrev main_call2_v1 : Ref sig .tc := ⟨.hbm, 126, rfl⟩
abbrev main_call2_v2 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_call3_cst : Ref sig .tc := ⟨.hbm, 131, rfl⟩
abbrev main_call3_v0 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87_0 : Ref sig .tc := ⟨.hbm, 141, rfl⟩
abbrev main_v87_1 : Ref sig .tc := ⟨.hbm, 142, rfl⟩
abbrev main_v87_2 : Ref sig .tc := ⟨.hbm, 143, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "dead" => some ⊥
  | "log2e" => some (((Real.log 2)⁻¹ : ℝ) : EReal)
  | _ => none

abbrev grid0 : Pipeline.Grid := .none

abbrev stage0_0 : Fin 1 → Memref sig .tc .vmem S7x24x12288 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x1x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7x256x12288 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7x256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7x96x256 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.TripsKernel.lean ====
/-
  The main loop of `Kernel`: the number of its trips and the places each trip reads, for a tile of at most 12288 slots;
  the clean-up loop after it makes no trip.
-/
module

public import proofs.«01_k».proof.Proof.Gen.Kernel.Frame
public import Idealize.ShloMosaic.Lib.WordArith
public import Mathlib.Tactic.FinCases
public import Mathlib.Tactic.NormNum

@[expose] public section

namespace Cert.Kernel.Body

open Cert.Kernel Cert.Kernel.Gen
open Idealize.ShloMosaic

theorem add255_toInt (v : BitVec 32) (h : v.toInt ≤ 12288) : (Scalar.addi v 255#32).toInt = v.toInt + 255 := by
  have h0 := BitVec.le_toInt v
  unfold Scalar.addi IntOp.addi
  rw [BitVec.toInt_add, show (255#32 : BitVec 32).toInt = 255 from by decide]
  exact Int.bmod_eq_of_le (by norm_num at h0 ⊢; omega) (by norm_num; omega)

/-- The number of chunks, as the kernel computes it: ⌈length / 256⌉. -/
theorem chunks_toInt (v : BitVec 32) (h : v.toInt ≤ 12288) :
    (Scalar.divsi (Scalar.addi v 255#32) 256#32).toInt = (v.toInt + 255).tdiv 256 := by
  unfold Scalar.divsi IntOp.divsi
  rw [if_neg (by rintro (h | ⟨-, h⟩) <;> revert h <;> decide),
    BitVec.toInt_sdiv_of_ne_or_ne _ _ (Or.inr (by decide)), add255_toInt v h]
  rfl

theorem t1_ub (v : BitVec 32) (h : v.toInt ≤ 12288) : (k0_t1_loop v).ub.toInt = (v.toInt + 255).tdiv 256 := by
  have e : (k0_t1_loop v).ub = Scalar.divsi (Scalar.addi v 255#32) 256#32 := by
    simp [k0_t1_loop, Scalar.addi, Scalar.muli, Scalar.subi, IntOp.addi, IntOp.muli, IntOp.subi, Scalar.divsi, WordArith.divsi_one]
  rw [e, chunks_toInt v h]

theorem tdiv_le (x : Int) (h : x ≤ 12288) : (x + 255).tdiv 256 ≤ 48 := by
  rcases le_or_gt 0 (x + 255) with h0 | h0
  · rw [Int.tdiv_eq_ediv_of_nonneg h0]; omega
  · have e : (x + 255).tdiv 256 = -((-(x + 255)).tdiv 256) := by rw [Int.neg_tdiv, neg_neg]
    have := Int.tdiv_nonneg (a := -(x + 255)) (b := 256) (by omega) (by decide); omega

/-- The loop's trips: the number of chunks, none of a length not positive. -/
theorem t1_trips (v : BitVec 32) (h : v.toInt ≤ 12288) : (k0_t1_loop v).trips = ((v.toInt + 255).tdiv 256).toNat := by
  show ((((k0_t1_loop v).ub.toInt - 0 + 1 - 1) / 1) : Int).toNat = _
  rw [t1_ub v h]; congr 1; omega

theorem t1_trips_le (v : BitVec 32) (h : v.toInt ≤ 12288) : (k0_t1_loop v).trips ≤ 48 := by
  have := tdiv_le _ h; rw [t1_trips v h]; omega

theorem t2_trips (v : BitVec 32) : (k0_t2_loop v).trips = 0 := by
  show ((((k0_t2_loop v).ub.toInt - (k0_t2_loop v).lb.toInt + 1 - 1) / 1) : Int).toNat = _
  have e : (k0_t2_loop v).ub = (k0_t2_loop v).lb := by
    simp [k0_t2_loop, Scalar.addi, Scalar.muli, Scalar.subi, IntOp.addi, IntOp.muli, IntOp.subi, Scalar.divsi, WordArith.divsi_one]
  rw [e]; simp

theorem iv_mul (k : ℕ) (hk : k < 48) : (Scalar.muli (Scf.iv (0#32 : BitVec 32) 1#32 k) 256#32).toNat = k * 256 := by
  unfold Scalar.muli IntOp.muli Scf.iv
  simp only [BitVec.zero_add, BitVec.mul_one, BitVec.toNat_mul, BitVec.toNat_ofNat]
  rw [Nat.mod_eq_of_lt (show k < 2 ^ 32 by omega)]
  norm_num
  omega

theorem off4_eq (v : BitVec 32) (h : v.toInt ≤ 12288) (k : Fin (k0_t1_loop v).trips) : k0_off4 v k = ![0, k.val * 256] := by
  have hk := lt_of_lt_of_le k.isLt (t1_trips_le v h)
  show ![0, (Scalar.muli (Scf.iv (0#32 : BitVec 32) 1#32 k.val) 256#32).toNat] = _
  rw [iv_mul _ hk]

theorem off5_eq (v : BitVec 32) (h : v.toInt ≤ 12288) (k : Fin (k0_t1_loop v).trips) : k0_off5 v k = ![24, k.val * 256] := by
  have hk := lt_of_lt_of_le k.isLt (t1_trips_le v h)
  show ![24, (Scalar.muli (Scf.iv (0#32 : BitVec 32) 1#32 k.val) 256#32).toNat] = _
  rw [iv_mul _ hk]

/-- What the body assumes of its length word: every chunk lies inside the tile's block. -/
theorem chk_of_le (v : BitVec 32) (h : v.toInt ≤ 12288) : k0_chk1 v := by
  have hle := t1_trips_le v h
  have no2 : ∀ k : Fin (k0_t2_loop v).trips, False := fun k => Nat.not_lt_zero _ (lt_of_lt_of_eq k.isLt (t2_trips v))
  have hv := BitVec.le_toInt v
  refine ⟨?_, ?_, ?_, ?_, ?_, ?_, fun k => (no2 k).elim, fun k => (no2 k).elim, fun k => (no2 k).elim, fun k => (no2 k).elim⟩
  · refine ⟨by show (0 : Int) < (1#32 : BitVec 32).toInt; decide, ?_⟩
    show (0#32 : BitVec 32).toInt + ((k0_t1_loop v).trips : Int) * (1#32 : BitVec 32).toInt < 2 ^ (32 - 1)
    rw [show (0#32 : BitVec 32).toInt = 0 from by decide, show (1#32 : BitVec 32).toInt = 1 from by decide]; omega
  · intro k
    show 256 ∣ (Scalar.muli (Scf.iv (0#32 : BitVec 32) 1#32 k.val) 256#32).toNat
    rw [iv_mul _ (lt_of_lt_of_le k.isLt hle)]; exact Dvd.intro_left _ rfl
  · intro k a
    rw [off4_eq v h k]
    have hk := lt_of_lt_of_le k.isLt hle
    fin_cases a
    · show 0 + 24 ≤ 32; omega
    · show k.val * 256 + 256 ≤ 12288; omega
  · intro k
    show 256 ∣ (Scalar.muli (Scf.iv (0#32 : BitVec 32) 1#32 k.val) 256#32).toNat
    rw [iv_mul _ (lt_of_lt_of_le k.isLt hle)]; exact Dvd.intro_left _ rfl
  · intro k a
    rw [off5_eq v h k]
    have hk := lt_of_lt_of_le k.isLt hle
    fin_cases a
    · show 24 + 8 ≤ 32; omega
    · show k.val * 256 + 256 ≤ 12288; omega
  · have e : (k0_t2_loop v).lb.toInt = (v.toInt + 255).tdiv 256 := t1_ub v h
    have h48 := tdiv_le _ h
    refine ⟨by show (0 : Int) < (1#32 : BitVec 32).toInt; decide, ?_⟩
    show (k0_t2_loop v).lb.toInt + ((k0_t2_loop v).trips : Int) * (1#32 : BitVec 32).toInt < 2 ^ (32 - 1)
    rw [t2_trips v, e]; norm_num; omega

end Cert.Kernel.Body

end
-- ==== Proof.RunKernel.lean ====
/-
  The kernel body of `Kernel` run once at symbolic operands (`kernelRun`), under the one fact it needs of its data: a
  tile has at most 12288 slots, so every chunk the main loop reads lies inside the tile's block.
-/
module

public import proofs.«01_k».proof.Proof.Gen.Kernel.Frame
public import proofs.«01_k».proof.Proof.Gen.Kernel.Loops
public import proofs.«01_k».proof.Proof.TripsKernel
public import Idealize.ShloMosaic.Lib.Tactic
public import Idealize.ShloMosaic.Lib.VecWindow
public import Idealize.ShloMosaic.Lib.Claim

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body on any staging memrefs -/

set_option maxHeartbeats 4000000 in
/-- What the body leaves in the three result blocks — values the run finds —, with the proof that on whole memrefs (the
    inputs at `x1 … x7`, the results and the scratch at anything) the body runs to the continuation holding them. -/
def kernelRun (c : Dev nD) (i : grid0.Coords)
    (arg1 : Memref sig .tc .smem S7x2 .f32) (h1 : arg1.IsWhole)
    (arg2 : Memref sig .tc .smem S7 .i32) (h2 : arg2.IsWhole)
    (arg3 : Memref sig .tc .vmem S32x12288 .i32) (h3 : arg3.IsWhole)
    (arg4 : Memref sig .tc .vmem S32x256 .bf16) (h4 : arg4.IsWhole)
    (arg5 : Memref sig .tc .vmem S96x512 .fp8e4m3) (h5 : arg5.IsWhole)
    (arg6 : Memref sig .tc .vmem S1x512 .f32) (h6 : arg6.IsWhole)
    (arg7 : Memref sig .tc .vmem S1x512 .f32) (h7 : arg7.IsWhole)
    (arg8 : Memref sig .tc .vmem S1x256x512 .bf16) (h8 : arg8.IsWhole)
    (arg9 : Memref sig .tc .vmem S1x96x256 .fp8e4m3) (h9 : arg9.IsWhole)
    (arg10 : Memref sig .tc .vmem S1x1x256 .f32) (h10 : arg10.IsWhole)
    (arg11 : Memref sig .tc .vmem S96x256 .f32) (h11 : arg11.IsWhole)
    (arg12 : Memref sig .tc .vmem S8x256 .f32) (h12 : arg12.IsWhole)
    (x1 : Vec F S7x2 .f32)
    (x2 : Vec F S7 .i32)
    (x3 : Vec F S32x12288 .i32)
    (x4 : Vec F S32x256 .bf16)
    (x5 : Vec F S96x512 .fp8e4m3)
    (x6 : Vec F S1x512 .f32)
    (x7 : Vec F S1x512 .f32) (hx : ∀ y, (x2 y).toInt ≤ 12288) :
    Σ' (Y8 : Vec F S1x256x512 .bf16) (Y9 : Vec F S1x96x256 .fp8e4m3), { Y10 : Vec F S1x1x256 .f32 //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ (∃ d, owns (c : Thread nD τ) arg8 fullShare d) ∗ (∃ d, owns (c : Thread nD τ) arg9 fullShare d) ∗ (∃ d, owns (c : Thread nD τ) arg10 fullShare d) ∗ (∃ f : BufTy.Contents (Elt F) arg11.view.ty, arg11.view.loc (c : Thread nD τ) ↦[arg11.view.set]{fullShare} f) ∗ (∃ f : BufTy.Contents (Elt F) arg12.view.ty, arg12.view.loc (c : Thread nD τ) ↦[arg12.view.set]{fullShare} f)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
                ∗ owns (c : Thread nD τ) arg8 fullShare Y8 ∗ owns (c : Thread nD τ) arg9 fullShare Y9 ∗ owns (c : Thread nD τ) arg10 fullShare Y10 ∗ (∃ f : BufTy.Contents (Elt F) arg11.view.ty, arg11.view.loc (c : Thread nD τ) ↦[arg11.view.set]{fullShare} f) ∗ (∃ f : BufTy.Contents (Elt F) arg12.view.ty, arg12.view.loc (c : Thread nD τ) ↦[arg12.view.set]{fullShare} f)) -∗ K ⟨⟩))
          ⊢ wp frame (wpE (defs₀ (F := F)) Variants.none c none) E (cc0_blend_decode i arg1 h1 arg2 h2 arg3 h3 arg4 h4 arg5 h5 arg6 h6 arg7 h7 arg8 h8 arg9 h9 arg10 h10 arg11 h11 arg12 h12) K } := by
  refine ⟨?_, ?_, ?_, fun E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, H11⟩, ⟨%f12, H12⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7
    sl_unfold [cc0_blend_decode]
    sl_exec (disch := exact chk_of_le _ (by delta kernelRun.sl.r; simp only [View.readAt_apply, Memref.IsWhole.read_unread]; exact hx _))
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; swap; · iexact H8
      ipureintro; exact View.read_writes_full _ _ _ _ _
    isplitl [H9]
    · iexists _; isplitr; swap; · iexact H9
      ipureintro; exact View.read_writes_full _ _ _ _ _
    isplitl [H10]
    · iexists _; isplitr; swap; · iexact H10
      ipureintro; exact View.read_writes_full _ _ _ _ _
    isplitl [H11]
    · iexists _; iexact H11
    iexists _; iexact H12

end Cert.Kernel.Body

end
-- ==== Proof.BodyKernel.lean ====
/-
  The frame of `Kernel`: the launch over the seven tiles assembled from the body's run (RunKernel).
-/
module

public import proofs.«01_k».proof.Proof.Gen.Kernel.Frame
public import proofs.«01_k».proof.Proof.Gen.Kernel.Loops
public import proofs.«01_k».proof.Proof.RunKernel
public import Idealize.ShloMosaic.Lib.Tactic
public import Idealize.ShloMosaic.Lib.VecWindow
public import Idealize.ShloMosaic.Lib.Claim

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pipeline's proof data -/

variable (m : (ℓ : Loc nD τ sig) → Buf (Elt F) ℓ) (ρ : Dev nD → PrngReg)

/-- Every tile has at most 12288 slots. -/
abbrev Fits : Prop := ∀ (c : Dev nD) (y : S7.Idx), (show BitVec 32 from m ((c : Thread nD τ).loc main_arg1) y).toInt ≤ 12288

variable {m} in
theorem Fits.block (h : Fits m) (c : Dev nD) (t : Fin cfg0.N) (y : S7.Idx) : (show BitVec 32 from iblk m c 1 t y).toInt ≤ 12288 := by
  unfold iblk
  rw [View.read_apply]
  have e := congrFun (V_main_arg1 m c) (((cfg0.win 1).blk t).view.emb y)
  have := h c (((cfg0.win 1).blk t).view.emb y)
  rw [← e] at this
  exact this

variable (hf : Fits m)

/-- What the body leaves in the result blocks at point `t`. -/
abbrev runAt (c : Dev nD) (t : Fin cfg0.N) :=
  kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t) (hf.block c t)
def outs7 (c : Dev nD) (t : Fin cfg0.N) : Vec F S1x256x512 .bf16 := (runAt m hf c t).1
def outs8 (c : Dev nD) (t : Fin cfg0.N) : Vec F S1x96x256 .fp8e4m3 := (runAt m hf c t).2.1
def outs9 (c : Dev nD) (t : Fin cfg0.N) : Vec F S1x1x256 .f32 := (runAt m hf c t).2.2.1

/-- The arrays as the region finds them; after the body each input's buffer at its block and each result's at what
    the run leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outs7 m hf c t
    | ⟨8, _⟩ => outs8 m hf c t
    | ⟨9, _⟩ => outs9 m hf c t
  Φ _ := Pipeline.ΦA spec0 c
  q _ := fullShare
  owed _ := 0

theorem A_eq (c : Dev nD) (w : Fin cfg0.W) : (dats m hf 0 c).A w = V m c (Pipeline.arrRef spec0 w) := by dsimp only [dats]
theorem after0_0 (c : Dev nD) (t : Fin cfg0.N) : (dats m hf 0 c).after 0 t = iblk m c 0 t := by dsimp only [dats]
theorem after0_1 (c : Dev nD) (t : Fin cfg0.N) : (dats m hf 0 c).after 1 t = iblk m c 1 t := by dsimp only [dats]
theorem after0_2 (c : Dev nD) (t : Fin cfg0.N) : (dats m hf 0 c).after 2 t = iblk m c 2 t := by dsimp only [dats]
theorem after0_3 (c : Dev nD) (t : Fin cfg0.N) : (dats m hf 0 c).after 3 t = iblk m c 3 t := by dsimp only [dats]
theorem after0_4 (c : Dev nD) (t : Fin cfg0.N) : (dats m hf 0 c).after 4 t = iblk m c 4 t := by dsimp only [dats]
theorem after0_5 (c : Dev nD) (t : Fin cfg0.N) : (dats m hf 0 c).after 5 t = iblk m c 5 t := by dsimp only [dats]
theorem after0_6 (c : Dev nD) (t : Fin cfg0.N) : (dats m hf 0 c).after 6 t = iblk m c 6 t := by dsimp only [dats]
theorem after0_7 (c : Dev nD) (t : Fin cfg0.N) : (dats m hf 0 c).after 7 t = outs7 m hf c t := by dsimp only [dats]
theorem after0_8 (c : Dev nD) (t : Fin cfg0.N) : (dats m hf 0 c).after 8 t = outs8 m hf c t := by dsimp only [dats]
theorem after0_9 (c : Dev nD) (t : Fin cfg0.N) : (dats m hf 0 c).after 9 t = outs9 m hf c t := by dsimp only [dats]
theorem before0_0 (c : Dev nD) (t : Fin cfg0.N) (d) : (dats m hf 0 c).before 0 t d = iblk m c 0 t :=
  before0_0_of m (dats m hf 0 c) (A_eq m hf c 0) (after0_0 m hf c) t d
theorem before0_1 (c : Dev nD) (t : Fin cfg0.N) (d) : (dats m hf 0 c).before 1 t d = iblk m c 1 t :=
  before0_1_of m (dats m hf 0 c) (A_eq m hf c 1) (after0_1 m hf c) t d
theorem before0_2 (c : Dev nD) (t : Fin cfg0.N) (d) : (dats m hf 0 c).before 2 t d = iblk m c 2 t :=
  before0_2_of m (dats m hf 0 c) (A_eq m hf c 2) (after0_2 m hf c) t d
theorem before0_3 (c : Dev nD) (t : Fin cfg0.N) (d) : (dats m hf 0 c).before 3 t d = iblk m c 3 t :=
  before0_3_of m (dats m hf 0 c) (A_eq m hf c 3) (after0_3 m hf c) t d
theorem before0_4 (c : Dev nD) (t : Fin cfg0.N) (d) : (dats m hf 0 c).before 4 t d = iblk m c 4 t :=
  before0_4_of m (dats m hf 0 c) (A_eq m hf c 4) (after0_4 m hf c) t d
theorem before0_5 (c : Dev nD) (t : Fin cfg0.N) (d) : (dats m hf 0 c).before 5 t d = iblk m c 5 t :=
  before0_5_of m (dats m hf 0 c) (A_eq m hf c 5) (after0_5 m hf c) t d
theorem before0_6 (c : Dev nD) (t : Fin cfg0.N) (d) : (dats m hf 0 c).before 6 t d = iblk m c 6 t :=
  before0_6_of m (dats m hf 0 c) (A_eq m hf c 6) (after0_6 m hf c) t d

/-! ## The body obligation -/

def bodyPre (c : Dev nD) (t : Fin cfg0.N) : sProp 𝕄 :=
  iprop((dats m hf 0 c).Φ t.castSucc ∗ (dats m hf 0 c).owesAt () t.castSucc
    ∗ (∃ d, owns (c : Thread nD τ) (st0_0 t) fullShare ((dats m hf 0 c).before 0 t d))
    ∗ (∃ d, owns (c : Thread nD τ) (st0_1 t) fullShare ((dats m hf 0 c).before 1 t d))
    ∗ (∃ d, owns (c : Thread nD τ) (st0_2 t) fullShare ((dats m hf 0 c).before 2 t d))
    ∗ (∃ d, owns (c : Thread nD τ) (st0_3 t) fullShare ((dats m hf 0 c).before 3 t d))
    ∗ (∃ d, owns (c : Thread nD τ) (st0_4 t) fullShare ((dats m hf 0 c).before 4 t d))
    ∗ (∃ d, owns (c : Thread nD τ) (st0_5 t) fullShare ((dats m hf 0 c).before 5 t d))
    ∗ (∃ d, owns (c : Thread nD τ) (st0_6 t) fullShare ((dats m hf 0 c).before 6 t d))
    ∗ (∃ d, owns (c : Thread nD τ) (st0_7 t) fullShare ((dats m hf 0 c).before 7 t d))
    ∗ (∃ d, owns (c : Thread nD τ) (st0_8 t) fullShare ((dats m hf 0 c).before 8 t d))
    ∗ (∃ d, owns (c : Thread nD τ) (st0_9 t) fullShare ((dats m hf 0 c).before 9 t d)))

def bodyPost (c : Dev nD) (t : Fin cfg0.N) : sProp 𝕄 :=
  iprop((dats m hf 0 c).Φ t.succ ∗ (dats m hf 0 c).owesAt () t.succ
    ∗ owns (c : Thread nD τ) (st0_0 t) fullShare ((dats m hf 0 c).after 0 t)
    ∗ owns (c : Thread nD τ) (st0_1 t) fullShare ((dats m hf 0 c).after 1 t)
    ∗ owns (c : Thread nD τ) (st0_2 t) fullShare ((dats m hf 0 c).after 2 t)
    ∗ owns (c : Thread nD τ) (st0_3 t) fullShare ((dats m hf 0 c).after 3 t)
    ∗ owns (c : Thread nD τ) (st0_4 t) fullShare ((dats m hf 0 c).after 4 t)
    ∗ owns (c : Thread nD τ) (st0_5 t) fullShare ((dats m hf 0 c).after 5 t)
    ∗ owns (c : Thread nD τ) (st0_6 t) fullShare ((dats m hf 0 c).after 6 t)
    ∗ owns (c : Thread nD τ) (st0_7 t) fullShare ((dats m hf 0 c).after 7 t)
    ∗ owns (c : Thread nD τ) (st0_8 t) fullShare ((dats m hf 0 c).after 8 t)
    ∗ owns (c : Thread nD τ) (st0_9 t) fullShare ((dats m hf 0 c).after 9 t))

/-- The region's own buffers are the two scratch buffers, each whole at some contents. -/
theorem scratch_eq (c : Dev nD) : (Pipeline.scopedRest spec0 c : sProp 𝕄) = iprop(
    (∃ f : BufTy.Contents (Elt F) (Memref.whole cc0_scratch0).view.ty, (Memref.whole cc0_scratch0).view.loc (c : Thread nD τ) ↦[(Memref.whole cc0_scratch0).view.set]{fullShare} f)
    ∗ (∃ f : BufTy.Contents (Elt F) (Memref.whole cc0_scratch1).view.ty, (Memref.whole cc0_scratch1).view.loc (c : Thread nD τ) ↦[(Memref.whole cc0_scratch1).view.set]{fullShare} f)) := by
  rw [scopedRest0_eq]
  simp only [Memref.whole, View.set_whole]

set_option maxHeartbeats 1600000 in
/-- The body at any point: the inputs' memrefs hold their blocks, the scratch is taken from the region's own buffers and
    handed back. -/
theorem sound_body (c : Dev nD) (t : Fin cfg0.N) :
    bodyPre m hf c t ⊢ wp frame (wpE (defs₀ (F := F)) Variants.none c none) Set.univ (bodyAt0 t) (fun _ => bodyPost m hf c t) := by
  unfold bodyPre bodyPost bodyAt0
  simp only [before0_0, before0_1, before0_2, before0_3, before0_4, before0_5, before0_6]
  rw [show (dats m hf 0 c).Φ t.castSucc = Pipeline.ΦA spec0 c from rfl, show (dats m hf 0 c).Φ t.succ = Pipeline.ΦA spec0 c from rfl,
    show (dats m hf 0 c).owesAt () t.succ = (dats m hf 0 c).owesAt () t.castSucc from rfl,
    after0_0, after0_1, after0_2, after0_3, after0_4, after0_5, after0_6, after0_7, after0_8, after0_9]
  unfold Pipeline.ΦA
  rw [scratch_eq]
  iintro ⟨⟨⟨⟨%g11, S11⟩, ⟨%g12, S12⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runAt m hf c t).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [S11]; · iexists g11; iexact S11
  isplitl [S12]; · iexists g12; iexact S12
  iintro ⟨H0, H1, H2, H3, H4, H5, H6, H7, H8, H9, S11, S12⟩
  isplitl [S11 S12 Hr]
  · isplitl [S11 S12]
    · isplitl [S11]; · iexact S11
      iexact S12
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m hf 0 c) (defs₀ (F := F)) Variants.none () Set.univ := fun t => by
  rw [bigSep_W0, bigSep_W0, defs₀_row]
  exact triple_restated (sound_body m hf c t) rfl .rfl fun _ => .rfl

/-! ## The run and the frame -/

set_option backward.isDefEq.respectTransparency.types false in
set_option maxHeartbeats 800000 in
/-- The launch: every execution of @main terminates with every array of the pipeline at what the proof data say and
    every semaphore counter at zero. -/
theorem run_main_quiescent : θ_run defs (onTc (τ := τ) (main (F := F))) (s₀ m ρ) (fun r => (Pipeline.FramePost cfgs (dats m hf) 0 (V m)) r ∧ r.2.sem = fun _ => 0) :=
  Pipeline.θ_run_frame (Q' := _) cfgs (dats m hf) (0 : Fin 1) launch0 defs₀ Variants.none m ρ main
    (hbody := fun c => (body_obligation m hf c).loose) (hshare := fun c => (dats m hf 0 c).share_full fun _ => rfl)
    (howed := fun _ _ => rfl) (V := V m) (hmain := hmain m Variants.none) (hA := A_eq m hf) (hΦ := fun _ _ => rfl)

theorem run_main : θ_run defs (onTc (τ := τ) (main (F := F))) (s₀ m ρ) (Pipeline.FramePost cfgs (dats m hf) 0 (V m)) :=
  (θ_run defs _ _).mono (fun _ h => h.1) (run_main_quiescent m ρ hf)

include hf in
/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m hf) (A_eq m hf) (run_main m ρ hf)) ((θ_run defs _ _).mono (fun _ h => h.2) (run_main_quiescent m ρ hf))

end Cert.Kernel.Body

end
-- ==== Proof.TripsKernelIdeal.lean ====
/-
  The main loop of `KernelIdeal`: the number of its trips and the places each trip reads, for a tile of at most 12288 slots;
  the clean-up loop after it makes no trip.
-/
module

public import proofs.«01_k».proof.Proof.Gen.KernelIdeal.Frame
public import Idealize.ShloMosaic.Lib.WordArith
public import Mathlib.Tactic.FinCases
public import Mathlib.Tactic.NormNum

@[expose] public section

namespace Cert.KernelIdeal.Body

open Cert.KernelIdeal Cert.KernelIdeal.Gen
open Idealize.ShloMosaic

theorem add255_toInt (v : BitVec 32) (h : v.toInt ≤ 12288) : (Scalar.addi v 255#32).toInt = v.toInt + 255 := by
  have h0 := BitVec.le_toInt v
  unfold Scalar.addi IntOp.addi
  rw [BitVec.toInt_add, show (255#32 : BitVec 32).toInt = 255 from by decide]
  exact Int.bmod_eq_of_le (by norm_num at h0 ⊢; omega) (by norm_num; omega)

/-- The number of chunks, as the kernel computes it: ⌈length / 256⌉. -/
theorem chunks_toInt (v : BitVec 32) (h : v.toInt ≤ 12288) :
    (Scalar.divsi (Scalar.addi v 255#32) 256#32).toInt = (v.toInt + 255).tdiv 256 := by
  unfold Scalar.divsi IntOp.divsi
  rw [if_neg (by rintro (h | ⟨-, h⟩) <;> revert h <;> decide),
    BitVec.toInt_sdiv_of_ne_or_ne _ _ (Or.inr (by decide)), add255_toInt v h]
  rfl

theorem t1_ub (v : BitVec 32) (h : v.toInt ≤ 12288) : (k0_t1_loop v).ub.toInt = (v.toInt + 255).tdiv 256 := by
  have e : (k0_t1_loop v).ub = Scalar.divsi (Scalar.addi v 255#32) 256#32 := by
    simp [k0_t1_loop, Scalar.addi, Scalar.muli, Scalar.subi, IntOp.addi, IntOp.muli, IntOp.subi, Scalar.divsi, WordArith.divsi_one]
  rw [e, chunks_toInt v h]

theorem tdiv_le (x : Int) (h : x ≤ 12288) : (x + 255).tdiv 256 ≤ 48 := by
  rcases le_or_gt 0 (x + 255) with h0 | h0
  · rw [Int.tdiv_eq_ediv_of_nonneg h0]; omega
  · have e : (x + 255).tdiv 256 = -((-(x + 255)).tdiv 256) := by rw [Int.neg_tdiv, neg_neg]
    have := Int.tdiv_nonneg (a := -(x + 255)) (b := 256) (by omega) (by decide); omega

/-- The loop's trips: the number of chunks, none of a length not positive. -/
theorem t1_trips (v : BitVec 32) (h : v.toInt ≤ 12288) : (k0_t1_loop v).trips = ((v.toInt + 255).tdiv 256).toNat := by
  show ((((k0_t1_loop v).ub.toInt - 0 + 1 - 1) / 1) : Int).toNat = _
  rw [t1_ub v h]; congr 1; omega

theorem t1_trips_le (v : BitVec 32) (h : v.toInt ≤ 12288) : (k0_t1_loop v).trips ≤ 48 := by
  have := tdiv_le _ h; rw [t1_trips v h]; omega

theorem t2_trips (v : BitVec 32) : (k0_t2_loop v).trips = 0 := by
  show ((((k0_t2_loop v).ub.toInt - (k0_t2_loop v).lb.toInt + 1 - 1) / 1) : Int).toNat = _
  have e : (k0_t2_loop v).ub = (k0_t2_loop v).lb := by
    simp [k0_t2_loop, Scalar.addi, Scalar.muli, Scalar.subi, IntOp.addi, IntOp.muli, IntOp.subi, Scalar.divsi, WordArith.divsi_one]
  rw [e]; simp

theorem iv_mul (k : ℕ) (hk : k < 48) : (Scalar.muli (Scf.iv (0#32 : BitVec 32) 1#32 k) 256#32).toNat = k * 256 := by
  unfold Scalar.muli IntOp.muli Scf.iv
  simp only [BitVec.zero_add, BitVec.mul_one, BitVec.toNat_mul, BitVec.toNat_ofNat]
  rw [Nat.mod_eq_of_lt (show k < 2 ^ 32 by omega)]
  norm_num
  omega

theorem off4_eq (v : BitVec 32) (h : v.toInt ≤ 12288) (k : Fin (k0_t1_loop v).trips) : k0_off4 v k = ![0, k.val * 256] := by
  have hk := lt_of_lt_of_le k.isLt (t1_trips_le v h)
  show ![0, (Scalar.muli (Scf.iv (0#32 : BitVec 32) 1#32 k.val) 256#32).toNat] = _
  rw [iv_mul _ hk]

theorem off5_eq (v : BitVec 32) (h : v.toInt ≤ 12288) (k : Fin (k0_t1_loop v).trips) : k0_off5 v k = ![24, k.val * 256] := by
  have hk := lt_of_lt_of_le k.isLt (t1_trips_le v h)
  show ![24, (Scalar.muli (Scf.iv (0#32 : BitVec 32) 1#32 k.val) 256#32).toNat] = _
  rw [iv_mul _ hk]

/-- What the body assumes of its length word: every chunk lies inside the tile's block. -/
theorem chk_of_le (v : BitVec 32) (h : v.toInt ≤ 12288) : k0_chk1 v := by
  have hle := t1_trips_le v h
  have no2 : ∀ k : Fin (k0_t2_loop v).trips, False := fun k => Nat.not_lt_zero _ (lt_of_lt_of_eq k.isLt (t2_trips v))
  have hv := BitVec.le_toInt v
  refine ⟨?_, ?_, ?_, ?_, ?_, ?_, fun k => (no2 k).elim, fun k => (no2 k).elim, fun k => (no2 k).elim, fun k => (no2 k).elim⟩
  · refine ⟨by show (0 : Int) < (1#32 : BitVec 32).toInt; decide, ?_⟩
    show (0#32 : BitVec 32).toInt + ((k0_t1_loop v).trips : Int) * (1#32 : BitVec 32).toInt < 2 ^ (32 - 1)
    rw [show (0#32 : BitVec 32).toInt = 0 from by decide, show (1#32 : BitVec 32).toInt = 1 from by decide]; omega
  · intro k
    show 256 ∣ (Scalar.muli (Scf.iv (0#32 : BitVec 32) 1#32 k.val) 256#32).toNat
    rw [iv_mul _ (lt_of_lt_of_le k.isLt hle)]; exact Dvd.intro_left _ rfl
  · intro k a
    rw [off4_eq v h k]
    have hk := lt_of_lt_of_le k.isLt hle
    fin_cases a
    · show 0 + 24 ≤ 32; omega
    · show k.val * 256 + 256 ≤ 12288; omega
  · intro k
    show 256 ∣ (Scalar.muli (Scf.iv (0#32 : BitVec 32) 1#32 k.val) 256#32).toNat
    rw [iv_mul _ (lt_of_lt_of_le k.isLt hle)]; exact Dvd.intro_left _ rfl
  · intro k a
    rw [off5_eq v h k]
    have hk := lt_of_lt_of_le k.isLt hle
    fin_cases a
    · show 24 + 8 ≤ 32; omega
    · show k.val * 256 + 256 ≤ 12288; omega
  · have e : (k0_t2_loop v).lb.toInt = (v.toInt + 255).tdiv 256 := t1_ub v h
    have h48 := tdiv_le _ h
    refine ⟨by show (0 : Int) < (1#32 : BitVec 32).toInt; decide, ?_⟩
    show (k0_t2_loop v).lb.toInt + ((k0_t2_loop v).trips : Int) * (1#32 : BitVec 32).toInt < 2 ^ (32 - 1)
    rw [t2_trips v, e]; norm_num; omega

end Cert.KernelIdeal.Body

end
-- ==== Proof.RunKernelIdeal.lean ====
/-
  The kernel body of `KernelIdeal` run once at symbolic operands (`kernelRun`), under the one fact it needs of its data: a
  tile has at most 12288 slots, so every chunk the main loop reads lies inside the tile's block.
-/
module

public import proofs.«01_k».proof.Proof.Gen.KernelIdeal.Frame
public import proofs.«01_k».proof.Proof.Gen.KernelIdeal.Loops
public import proofs.«01_k».proof.Proof.TripsKernelIdeal
public import Idealize.ShloMosaic.Lib.Tactic
public import Idealize.ShloMosaic.Lib.VecWindow
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body on any staging memrefs -/

set_option maxHeartbeats 4000000 in
/-- What the body leaves in the three result blocks — values the run finds —, with the proof that on whole memrefs (the
    inputs at `x1 … x7`, the results and the scratch at anything) the body runs to the continuation holding them. -/
def kernelRun (c : Dev nD) (i : grid0.Coords)
    (arg1 : Memref sig .tc .smem S7x2 .f32) (h1 : arg1.IsWhole)
    (arg2 : Memref sig .tc .smem S7 .i32) (h2 : arg2.IsWhole)
    (arg3 : Memref sig .tc .vmem S32x12288 .i32) (h3 : arg3.IsWhole)
    (arg4 : Memref sig .tc .vmem S32x256 .bf16) (h4 : arg4.IsWhole)
    (arg5 : Memref sig .tc .vmem S96x512 .fp8e4m3) (h5 : arg5.IsWhole)
    (arg6 : Memref sig .tc .vmem S1x512 .f32) (h6 : arg6.IsWhole)
    (arg7 : Memref sig .tc .vmem S1x512 .f32) (h7 : arg7.IsWhole)
    (arg8 : Memref sig .tc .vmem S1x256x512 .bf16) (h8 : arg8.IsWhole)
    (arg9 : Memref sig .tc .vmem S1x96x256 .fp8e4m3) (h9 : arg9.IsWhole)
    (arg10 : Memref sig .tc .vmem S1x1x256 .f32) (h10 : arg10.IsWhole)
    (arg11 : Memref sig .tc .vmem S96x256 .f32) (h11 : arg11.IsWhole)
    (arg12 : Memref sig .tc .vmem S8x256 .f32) (h12 : arg12.IsWhole)
    (x1 : Vec F S7x2 .f32)
    (x2 : Vec F S7 .i32)
    (x3 : Vec F S32x12288 .i32)
    (x4 : Vec F S32x256 .bf16)
    (x5 : Vec F S96x512 .fp8e4m3)
    (x6 : Vec F S1x512 .f32)
    (x7 : Vec F S1x512 .f32) (hx : ∀ y, (x2 y).toInt ≤ 12288) :
    Σ' (Y8 : Vec F S1x256x512 .bf16) (Y9 : Vec F S1x96x256 .fp8e4m3), { Y10 : Vec F S1x1x256 .f32 //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ (∃ d, owns (c : Thread nD τ) arg8 fullShare d) ∗ (∃ d, owns (c : Thread nD τ) arg9 fullShare d) ∗ (∃ d, owns (c : Thread nD τ) arg10 fullShare d) ∗ (∃ f : BufTy.Contents (Elt F) arg11.view.ty, arg11.view.loc (c : Thread nD τ) ↦[arg11.view.set]{fullShare} f) ∗ (∃ f : BufTy.Contents (Elt F) arg12.view.ty, arg12.view.loc (c : Thread nD τ) ↦[arg12.view.set]{fullShare} f)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
                ∗ owns (c : Thread nD τ) arg8 fullShare Y8 ∗ owns (c : Thread nD τ) arg9 fullShare Y9 ∗ owns (c : Thread nD τ) arg10 fullShare Y10 ∗ (∃ f : BufTy.Contents (Elt F) arg11.view.ty, arg11.view.loc (c : Thread nD τ) ↦[arg11.view.set]{fullShare} f) ∗ (∃ f : BufTy.Contents (Elt F) arg12.view.ty, arg12.view.loc (c : Thread nD τ) ↦[arg12.view.set]{fullShare} f)) -∗ K ⟨⟩))
          ⊢ wp frame (wpE (defs₀ (F := F)) Variants.none c none) E (cc0_blend_decode i arg1 h1 arg2 h2 arg3 h3 arg4 h4 arg5 h5 arg6 h6 arg7 h7 arg8 h8 arg9 h9 arg10 h10 arg11 h11 arg12 h12) K } := by
  refine ⟨?_, ?_, ?_, fun E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, H11⟩, ⟨%f12, H12⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7
    sl_unfold [cc0_blend_decode]
    sl_exec (disch := exact chk_of_le _ (by delta kernelRun.sl.r; simp only [View.readAt_apply, Memref.IsWhole.read_unread]; exact hx _))
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; swap; · iexact H8
      ipureintro; exact View.read_writes_full _ _ _ _ _
    isplitl [H9]
    · iexists _; isplitr; swap; · iexact H9
      ipureintro; exact View.read_writes_full _ _ _ _ _
    isplitl [H10]
    · iexists _; isplitr; swap; · iexact H10
      ipureintro; exact View.read_writes_full _ _ _ _ _
    isplitl [H11]
    · iexists _; iexact H11
    iexists _; iexact H12

end Cert.KernelIdeal.Body

end
-- ==== Proof.BodyKernelIdeal.lean ====
/-
  The frame of `KernelIdeal`: the launch over the seven tiles assembled from the body's run (RunKernelIdeal).
-/
module

public import proofs.«01_k».proof.Proof.Gen.KernelIdeal.Frame
public import proofs.«01_k».proof.Proof.Gen.KernelIdeal.Loops
public import proofs.«01_k».proof.Proof.RunKernelIdeal
public import Idealize.ShloMosaic.Lib.Tactic
public import Idealize.ShloMosaic.Lib.VecWindow
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The pipeline's proof data -/

variable (m : (ℓ : Loc nD τ sig) → Buf (Elt F) ℓ) (ρ : Dev nD → PrngReg)

/-- Every tile has at most 12288 slots. -/
abbrev Fits : Prop := ∀ (c : Dev nD) (y : S7.Idx), (show BitVec 32 from m ((c : Thread nD τ).loc main_arg1) y).toInt ≤ 12288

variable {m} in
theorem Fits.block (h : Fits m) (c : Dev nD) (t : Fin cfg0.N) (y : S7.Idx) : (show BitVec 32 from iblk m c 1 t y).toInt ≤ 12288 := by
  unfold iblk
  rw [View.read_apply]
  have e := congrFun (V_main_arg1 m c) (((cfg0.win 1).blk t).view.emb y)
  have := h c (((cfg0.win 1).blk t).view.emb y)
  rw [← e] at this
  exact this

variable (hf : Fits m)

/-- What the body leaves in the result blocks at point `t`. -/
abbrev runAt (c : Dev nD) (t : Fin cfg0.N) :=
  kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t) (hf.block c t)
def outs7 (c : Dev nD) (t : Fin cfg0.N) : Vec F S1x256x512 .bf16 := (runAt m hf c t).1
def outs8 (c : Dev nD) (t : Fin cfg0.N) : Vec F S1x96x256 .fp8e4m3 := (runAt m hf c t).2.1
def outs9 (c : Dev nD) (t : Fin cfg0.N) : Vec F S1x1x256 .f32 := (runAt m hf c t).2.2.1

/-- The arrays as the region finds them; after the body each input's buffer at its block and each result's at what
    the run leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outs7 m hf c t
    | ⟨8, _⟩ => outs8 m hf c t
    | ⟨9, _⟩ => outs9 m hf c t
  Φ _ := Pipeline.ΦA spec0 c
  q _ := fullShare
  owed _ := 0

theorem A_eq (c : Dev nD) (w : Fin cfg0.W) : (dats m hf 0 c).A w = V m c (Pipeline.arrRef spec0 w) := by dsimp only [dats]
theorem after0_0 (c : Dev nD) (t : Fin cfg0.N) : (dats m hf 0 c).after 0 t = iblk m c 0 t := by dsimp only [dats]
theorem after0_1 (c : Dev nD) (t : Fin cfg0.N) : (dats m hf 0 c).after 1 t = iblk m c 1 t := by dsimp only [dats]
theorem after0_2 (c : Dev nD) (t : Fin cfg0.N) : (dats m hf 0 c).after 2 t = iblk m c 2 t := by dsimp only [dats]
theorem after0_3 (c : Dev nD) (t : Fin cfg0.N) : (dats m hf 0 c).after 3 t = iblk m c 3 t := by dsimp only [dats]
theorem after0_4 (c : Dev nD) (t : Fin cfg0.N) : (dats m hf 0 c).after 4 t = iblk m c 4 t := by dsimp only [dats]
theorem after0_5 (c : Dev nD) (t : Fin cfg0.N) : (dats m hf 0 c).after 5 t = iblk m c 5 t := by dsimp only [dats]
theorem after0_6 (c : Dev nD) (t : Fin cfg0.N) : (dats m hf 0 c).after 6 t = iblk m c 6 t := by dsimp only [dats]
theorem after0_7 (c : Dev nD) (t : Fin cfg0.N) : (dats m hf 0 c).after 7 t = outs7 m hf c t := by dsimp only [dats]
theorem after0_8 (c : Dev nD) (t : Fin cfg0.N) : (dats m hf 0 c).after 8 t = outs8 m hf c t := by dsimp only [dats]
theorem after0_9 (c : Dev nD) (t : Fin cfg0.N) : (dats m hf 0 c).after 9 t = outs9 m hf c t := by dsimp only [dats]
theorem before0_0 (c : Dev nD) (t : Fin cfg0.N) (d) : (dats m hf 0 c).before 0 t d = iblk m c 0 t :=
  before0_0_of m (dats m hf 0 c) (A_eq m hf c 0) (after0_0 m hf c) t d
theorem before0_1 (c : Dev nD) (t : Fin cfg0.N) (d) : (dats m hf 0 c).before 1 t d = iblk m c 1 t :=
  before0_1_of m (dats m hf 0 c) (A_eq m hf c 1) (after0_1 m hf c) t d
theorem before0_2 (c : Dev nD) (t : Fin cfg0.N) (d) : (dats m hf 0 c).before 2 t d = iblk m c 2 t :=
  before0_2_of m (dats m hf 0 c) (A_eq m hf c 2) (after0_2 m hf c) t d
theorem before0_3 (c : Dev nD) (t : Fin cfg0.N) (d) : (dats m hf 0 c).before 3 t d = iblk m c 3 t :=
  before0_3_of m (dats m hf 0 c) (A_eq m hf c 3) (after0_3 m hf c) t d
theorem before0_4 (c : Dev nD) (t : Fin cfg0.N) (d) : (dats m hf 0 c).before 4 t d = iblk m c 4 t :=
  before0_4_of m (dats m hf 0 c) (A_eq m hf c 4) (after0_4 m hf c) t d
theorem before0_5 (c : Dev nD) (t : Fin cfg0.N) (d) : (dats m hf 0 c).before 5 t d = iblk m c 5 t :=
  before0_5_of m (dats m hf 0 c) (A_eq m hf c 5) (after0_5 m hf c) t d
theorem before0_6 (c : Dev nD) (t : Fin cfg0.N) (d) : (dats m hf 0 c).before 6 t d = iblk m c 6 t :=
  before0_6_of m (dats m hf 0 c) (A_eq m hf c 6) (after0_6 m hf c) t d

/-! ## The body obligation -/

def bodyPre (c : Dev nD) (t : Fin cfg0.N) : sProp 𝕄 :=
  iprop((dats m hf 0 c).Φ t.castSucc ∗ (dats m hf 0 c).owesAt () t.castSucc
    ∗ (∃ d, owns (c : Thread nD τ) (st0_0 t) fullShare ((dats m hf 0 c).before 0 t d))
    ∗ (∃ d, owns (c : Thread nD τ) (st0_1 t) fullShare ((dats m hf 0 c).before 1 t d))
    ∗ (∃ d, owns (c : Thread nD τ) (st0_2 t) fullShare ((dats m hf 0 c).before 2 t d))
    ∗ (∃ d, owns (c : Thread nD τ) (st0_3 t) fullShare ((dats m hf 0 c).before 3 t d))
    ∗ (∃ d, owns (c : Thread nD τ) (st0_4 t) fullShare ((dats m hf 0 c).before 4 t d))
    ∗ (∃ d, owns (c : Thread nD τ) (st0_5 t) fullShare ((dats m hf 0 c).before 5 t d))
    ∗ (∃ d, owns (c : Thread nD τ) (st0_6 t) fullShare ((dats m hf 0 c).before 6 t d))
    ∗ (∃ d, owns (c : Thread nD τ) (st0_7 t) fullShare ((dats m hf 0 c).before 7 t d))
    ∗ (∃ d, owns (c : Thread nD τ) (st0_8 t) fullShare ((dats m hf 0 c).before 8 t d))
    ∗ (∃ d, owns (c : Thread nD τ) (st0_9 t) fullShare ((dats m hf 0 c).before 9 t d)))

def bodyPost (c : Dev nD) (t : Fin cfg0.N) : sProp 𝕄 :=
  iprop((dats m hf 0 c).Φ t.succ ∗ (dats m hf 0 c).owesAt () t.succ
    ∗ owns (c : Thread nD τ) (st0_0 t) fullShare ((dats m hf 0 c).after 0 t)
    ∗ owns (c : Thread nD τ) (st0_1 t) fullShare ((dats m hf 0 c).after 1 t)
    ∗ owns (c : Thread nD τ) (st0_2 t) fullShare ((dats m hf 0 c).after 2 t)
    ∗ owns (c : Thread nD τ) (st0_3 t) fullShare ((dats m hf 0 c).after 3 t)
    ∗ owns (c : Thread nD τ) (st0_4 t) fullShare ((dats m hf 0 c).after 4 t)
    ∗ owns (c : Thread nD τ) (st0_5 t) fullShare ((dats m hf 0 c).after 5 t)
    ∗ owns (c : Thread nD τ) (st0_6 t) fullShare ((dats m hf 0 c).after 6 t)
    ∗ owns (c : Thread nD τ) (st0_7 t) fullShare ((dats m hf 0 c).after 7 t)
    ∗ owns (c : Thread nD τ) (st0_8 t) fullShare ((dats m hf 0 c).after 8 t)
    ∗ owns (c : Thread nD τ) (st0_9 t) fullShare ((dats m hf 0 c).after 9 t))

/-- The region's own buffers are the two scratch buffers, each whole at some contents. -/
theorem scratch_eq (c : Dev nD) : (Pipeline.scopedRest spec0 c : sProp 𝕄) = iprop(
    (∃ f : BufTy.Contents (Elt F) (Memref.whole cc0_scratch0).view.ty, (Memref.whole cc0_scratch0).view.loc (c : Thread nD τ) ↦[(Memref.whole cc0_scratch0).view.set]{fullShare} f)
    ∗ (∃ f : BufTy.Contents (Elt F) (Memref.whole cc0_scratch1).view.ty, (Memref.whole cc0_scratch1).view.loc (c : Thread nD τ) ↦[(Memref.whole cc0_scratch1).view.set]{fullShare} f)) := by
  rw [scopedRest0_eq]
  simp only [Memref.whole, View.set_whole]

set_option maxHeartbeats 1600000 in
/-- The body at any point: the inputs' memrefs hold their blocks, the scratch is taken from the region's own buffers and
    handed back. -/
theorem sound_body (c : Dev nD) (t : Fin cfg0.N) :
    bodyPre m hf c t ⊢ wp frame (wpE (defs₀ (F := F)) Variants.none c none) Set.univ (bodyAt0 t) (fun _ => bodyPost m hf c t) := by
  unfold bodyPre bodyPost bodyAt0
  simp only [before0_0, before0_1, before0_2, before0_3, before0_4, before0_5, before0_6]
  rw [show (dats m hf 0 c).Φ t.castSucc = Pipeline.ΦA spec0 c from rfl, show (dats m hf 0 c).Φ t.succ = Pipeline.ΦA spec0 c from rfl,
    show (dats m hf 0 c).owesAt () t.succ = (dats m hf 0 c).owesAt () t.castSucc from rfl,
    after0_0, after0_1, after0_2, after0_3, after0_4, after0_5, after0_6, after0_7, after0_8, after0_9]
  unfold Pipeline.ΦA
  rw [scratch_eq]
  iintro ⟨⟨⟨⟨%g11, S11⟩, ⟨%g12, S12⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runAt m hf c t).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [S11]; · iexists g11; iexact S11
  isplitl [S12]; · iexists g12; iexact S12
  iintro ⟨H0, H1, H2, H3, H4, H5, H6, H7, H8, H9, S11, S12⟩
  isplitl [S11 S12 Hr]
  · isplitl [S11 S12]
    · isplitl [S11]; · iexact S11
      iexact S12
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m hf 0 c) (defs₀ (F := F)) Variants.none () Set.univ := fun t => by
  rw [bigSep_W0, bigSep_W0, defs₀_row]
  exact triple_restated (sound_body m hf c t) rfl .rfl fun _ => .rfl

/-! ## The run and the frame -/

set_option backward.isDefEq.respectTransparency.types false in
set_option maxHeartbeats 800000 in
/-- The launch: every execution of @main terminates with every array of the pipeline at what the proof data say and
    every semaphore counter at zero. -/
theorem run_main_quiescent : θ_run defs (onTc (τ := τ) (main (F := F))) (s₀ m ρ) (fun r => (Pipeline.FramePost cfgs (dats m hf) 0 (V m)) r ∧ r.2.sem = fun _ => 0) :=
  Pipeline.θ_run_frame (Q' := _) cfgs (dats m hf) (0 : Fin 1) launch0 defs₀ Variants.none m ρ main
    (hbody := fun c => (body_obligation m hf c).loose) (hshare := fun c => (dats m hf 0 c).share_full fun _ => rfl)
    (howed := fun _ _ => rfl) (V := V m) (hmain := hmain m Variants.none) (hA := A_eq m hf) (hΦ := fun _ _ => rfl)

theorem run_main : θ_run defs (onTc (τ := τ) (main (F := F))) (s₀ m ρ) (Pipeline.FramePost cfgs (dats m hf) 0 (V m)) :=
  (θ_run defs _ _).mono (fun _ h => h.1) (run_main_quiescent m ρ hf)

include hf in
/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m hf) (A_eq m hf) (run_main m ρ hf)) ((θ_run defs _ _).mono (fun _ h => h.2) (run_main_quiescent m ρ hf))

end Cert.KernelIdeal.Body

end
-- ==== Proof.Pre.lean ====
/-
  The preconditions read: the facts their operations take, and what they say of the arguments.
-/
module

public import proofs.«01_k».proof.Defs
public import Idealize.ShloMosaic.Lib.Affine
public import Idealize.ShloMosaic.Lib.ReduceAll

@[expose] public section

namespace Cert.Pre

open Idealize.ShloMosaic

instance lensFacts : Cert.Pre_lens_fit.Facts := ⟨by decide⟩

/-- Every tile has at most 12288 slots. -/
theorem lens_of_pre {F : FTy → Type} [FloatOps F] [Cert.Pre_lens_fit.Facts] (a0 : FVec F Cert.Pre_lens_fit.S7x2 .f32)
    (a1 : IVec Cert.Pre_lens_fit.S7 32) (a2 a3 a4 a5) (h : Cert.Pre_lens_fit.fn a0 a1 a2 a3 a4 a5 = fun _ => 1#1) (y) : (a1 y).toInt ≤ 12288 := by
  have e := congrFun h y
  dsimp only [Cert.Pre_lens_fit.fn] at e
  exact IntOp.cmpi_sle.mp e

end Cert.Pre

end
-- ==== Proof.Blend.lean ====
module

public import Idealize.ShloMosaic.PureOps.Ideal
public import Idealize.ShloMosaic.Lib.IdealHost
public import Idealize.ShloMosaic.Lib.Affine
public import Mathlib.Tactic.NormNum
public import Mathlib.Tactic.Ring
public import Mathlib.Tactic.Linarith

/-! # The blend over the reals

The opacity of a slot at a pixel, and the transmittance written as a product and as an exponential of a running sum. -/

@[expose] public section

noncomputable section

namespace Cert.Blend

open Idealize.ShloMosaic

/-- The real a finite 32-bit word stands for. -/
def realOf (w : BitVec 32) : ℝ := (Ideal.ofBits .f32 w).toReal

/-- A word whose exponent field is not all ones stands for a real. -/
theorem ofBits_real (w : BitVec 32) (h : w &&& 2139095040#32 ≠ 2139095040#32) : Ideal.ofBits .f32 w = (realOf w : EReal) := by
  have hne : (w.extractLsb' 23 8).toNat ≠ 255 := by
    intro he
    apply h
    apply BitVec.eq_of_getLsbD_eq
    intro i hi
    have hb : ∀ k, k < 8 → w.getLsbD (23 + k) = true := by
      intro k hk
      have h1 : (w.extractLsb' 23 8) = 255#8 := BitVec.eq_of_toNat_eq he
      have h2 := congrArg (fun v => BitVec.getLsbD v k) h1
      simp only [BitVec.getLsbD_extractLsb', hk, decide_true, Bool.true_and] at h2
      rw [h2]
      interval_cases k <;> rfl
    rw [BitVec.getLsbD_and]
    by_cases h1 : 23 ≤ i ∧ i < 31
    · have := hb (i - 23) (by omega)
      rw [show 23 + (i - 23) = i by omega] at this
      rw [this, Bool.true_and]
    · have : (2139095040#32).getLsbD i = false := by
        have : i < 23 ∨ i = 31 := by omega
        rcases this with h | rfl
        · interval_cases i <;> rfl
        · rfl
      rw [this, Bool.and_false]
  have : ∃ r : ℝ, Ideal.ofBits .f32 w = (r : EReal) := by
    show ∃ r : ℝ, Ideal.ieee 8 23 w = _
    unfold Ideal.ieee
    dsimp only
    rw [if_neg (by exact hne)]
    split
    · exact ⟨_, rfl⟩
    · exact ⟨_, rfl⟩
  obtain ⟨r, hr⟩ := this
  unfold realOf
  rw [hr, EReal.toReal_coe]

/-- The exponent of a Gaussian at a pixel. -/
def gauss (ox oy px py mx my a b c : ℝ) : ℝ :=
  -1 / 2 * (a * (px + ox - mx) * (px + ox - mx) + c * (py + oy - my) * (py + oy - my)) - b * (px + ox - mx) * (py + oy - my)

/-- The cap on an opacity. -/
def cap : ℝ := (Ideal.ofBits .f32 0x3F7D70A4#32).toReal

theorem cap_coe : Ideal.ofBits .f32 0x3F7D70A4#32 = (cap : EReal) := ofBits_real _ (by decide)

theorem cap_val : cap = 16609444 / 16777216 := by
  unfold cap
  show (Ideal.ieee 8 23 0x3F7D70A4#32).toReal = _
  unfold Ideal.ieee
  dsimp only
  rw [if_neg (by decide), if_neg (by decide), EReal.toReal_coe]
  have h1 : ((0x3F7D70A4#32).extractLsb' (8 + 23) 1 == 1#1) = false := by decide
  have h2 : ((0x3F7D70A4#32).extractLsb' 23 8).toNat = 126 := by decide
  have h3 : ((0x3F7D70A4#32).extractLsb' 0 23).toNat = 8220836 := by decide
  rw [h1, h2, h3]
  norm_num

theorem cap_pos : 0 < cap := by rw [cap_val]; norm_num
theorem cap_lt : cap < 1 := by rw [cap_val]; norm_num

/-- The opacity of slot `i` at pixel `p` of a tile: `ws t i` is row `t` of the slot's words, `L` the number of live slots. -/
def alpha (ws : ℕ → ℕ → BitVec 32) (L : BitVec 32) (ox oy : ℝ) (i : ℕ) (p : Fin 256) : ℝ :=
  if (i : ℤ) < L.toInt then
    min cap (realOf (ws 29 i) * Real.exp (gauss ox oy (((p.val % 16 : ℕ) : ℝ) + 1 / 2) (((p.val / 16 : ℕ) : ℝ) + 1 / 2)
      (realOf (ws 24 i)) (realOf (ws 25 i)) (realOf (ws 26 i)) (realOf (ws 27 i)) (realOf (ws 28 i))))
  else 0

theorem alpha_lt (ws : ℕ → ℕ → BitVec 32) (L : BitVec 32) (ox oy : ℝ) (i : ℕ) (p : Fin 256) : alpha ws L ox oy i p < 1 := by
  unfold alpha
  split
  · exact lt_of_le_of_lt (min_le_left _ _) cap_lt
  · exact one_pos

theorem alpha_dead (ws : ℕ → ℕ → BitVec 32) (L : BitVec 32) (ox oy : ℝ) (i : ℕ) (p : Fin 256) (h : L.toInt ≤ i) : alpha ws L ox oy i p = 0 := by
  unfold alpha
  rw [if_neg (by omega)]

/-- The transmittance in front of slot `n`, a real. -/
def trans (a : ℕ → ℝ) (n : ℕ) : ℝ := ∏ i ∈ Finset.range n, (1 - a i)

theorem trans_pos (a : ℕ → ℝ) (h : ∀ i, a i < 1) (n : ℕ) : 0 < trans a n :=
  Finset.prod_pos fun i _ => by have := h i; linarith

theorem trans_coe (a : ℕ → ℝ) (n : ℕ) : ∏ i ∈ Finset.range n, ((1 : EReal) - (a i : EReal)) = (trans a n : EReal) := by
  induction n with
  | zero => simp [trans]
  | succ n ih =>
    have : (1 : EReal) - (a n : EReal) = ((1 - a n : ℝ) : EReal) := by rw [EReal.coe_sub]; rfl
    rw [Finset.prod_range_succ, ih, this, ← EReal.coe_mul]
    unfold trans
    rw [Finset.prod_range_succ]

/-- The transmittance as the exponential of an exclusive running sum. -/
theorem exp_cumsum (a : ℕ → ℝ) (h : ∀ i, a i < 1) (n : ℕ) :
    Real.exp (∑ i ∈ Finset.range (n + 1), Real.log (1 + -a i) - Real.log (1 + -a n)) = trans a n := by
  rw [Finset.sum_range_succ, add_sub_cancel_right, Real.exp_sum]
  unfold trans
  refine Finset.prod_congr rfl fun i _ => ?_
  rw [Real.exp_log (by have := h i; linarith)]
  ring

/-- A sum of reals, coerced. -/
theorem sum_coe (a : ℕ → ℝ) (n : ℕ) : ∑ i ∈ Finset.range n, (a i : EReal) = ((∑ i ∈ Finset.range n, a i : ℝ) : EReal) := by
  induction n with
  | zero => simp
  | succ n ih => rw [Finset.sum_range_succ, Finset.sum_range_succ, ih, EReal.coe_add]

/-- Byte `b` of a word. -/
def byteOf (w : BitVec 32) (b : ℕ) : BitVec 8 := w.extractLsb' (8 * b) 8

/-- The blended feature `f` of a tile at pixel `p`, over the first `n` slots. -/
def blend (ws : ℕ → ℕ → BitVec 32) (L : BitVec 32) (ox oy : ℝ) (n : ℕ) (f : ℕ) (p : Fin 256) : EReal :=
  ∑ i ∈ Finset.range n, Ideal.ofBits .fp8e4m3 (byteOf (ws (f / 4) i) (f % 4)) * Ideal.ofBits .f32 (ws 30 i)
    * ((alpha ws L ox oy i p * trans (fun j => alpha ws L ox oy j p) i : ℝ) : EReal)

/-- Slots past the live ones add nothing. -/
theorem blend_dead (ws : ℕ → ℕ → BitVec 32) (L : BitVec 32) (ox oy : ℝ) (n m : ℕ) (hn : L.toInt ≤ n) (hm : n ≤ m) (f : ℕ) (p : Fin 256) :
    blend ws L ox oy m f p = blend ws L ox oy n f p := by
  refine (Finset.sum_subset (Finset.range_mono hm) fun i _ hi => ?_).symm
  have : n ≤ i := Nat.le_of_not_lt fun h => hi (Finset.mem_range.2 h)
  rw [alpha_dead ws L ox oy i p (by omega), zero_mul, EReal.coe_zero, mul_zero]

end Cert.Blend

end
-- ==== Proof.Decode.lean ====
module

public import proofs.«01_k».proof.Proof.Blend
public import Mathlib.Analysis.SpecialFunctions.Pow.Real
public import Mathlib.Data.Finset.Fold

/-! # The scale of a pixel

The scale is the power of two just above the largest feature over 448. One program computes its exponent as a 32-bit integer, corrects it
by comparing and builds the powers' words by shifting; the other keeps it in a float. Both are `expo`. -/

@[expose] public section

noncomputable section

namespace Cert.Decode

open Idealize.ShloMosaic

/-- The exponent of the scale. -/
def expo (x : EReal) : ℤ :=
  if x = 0 then 0 else if x = ⊤ then 120 else max (-126) (min 120 (⌊Real.log x.toReal * (Real.log 2)⁻¹⌋ + 1))

theorem expo_bounds (x : EReal) : -126 ≤ expo x ∧ expo x ≤ 120 := by
  unfold expo; split
  · omega
  split <;> omega

/-- What a normal word denotes. -/
theorem f32_val (b : BitVec 32) (neg : Bool) (ex fr : ℕ) (h1 : (b.extractLsb' 31 1 == 1#1) = neg) (h2 : (b.extractLsb' 23 8).toNat = ex)
    (h3 : (b.extractLsb' 0 23).toNat = fr) (hx : ex ≠ 255) (h0 : ex ≠ 0) :
    Ideal.ofBits .f32 b = (((if neg then -1 else 1) * (2 ^ 23 + fr : ℕ) * (2 : ℝ) ^ ((ex : ℤ) - 127 - 23) : ℝ) : EReal) := by
  subst h1 h2 h3
  show Ideal.ieee 8 23 b = _
  unfold Ideal.ieee
  dsimp only
  rw [if_neg (by exact hx), if_neg h0]
  norm_num

theorem lo_val : Ideal.ofBits .f32 3271294976#32 = ((-126 : ℝ) : EReal) := by
  rw [f32_val 3271294976#32 true 133 0x7C0000 (by decide) (by decide) (by decide) (by decide) (by decide)]
  congr 1; norm_num

theorem hi_val : Ideal.ofBits .f32 1123024896#32 = ((120 : ℝ) : EReal) := by
  rw [f32_val 1123024896#32 false 133 0x700000 (by decide) (by decide) (by decide) (by decide) (by decide)]
  congr 1; norm_num

/-- The word of a power of two. -/
def word (v : BitVec 32) : BitVec 32 := IntOp.shli .vector (IntOp.addi v 127#32) 23#32

theorem word_ofInt (E : ℤ) (h0 : -127 ≤ E) (h1 : E ≤ 127) : word (BitVec.ofInt 32 E) = BitVec.ofNat 32 (E + 127).toNat <<< 23 := by
  have e : IntOp.addi (BitVec.ofInt 32 E) 127#32 = BitVec.ofNat 32 (E + 127).toNat := by
    rw [IntOp.addi, show (127#32) = BitVec.ofInt 32 127 from rfl, ← BitVec.ofInt_add]
    obtain ⟨n, hn⟩ := Int.eq_ofNat_of_zero_le (show 0 ≤ E + 127 by omega)
    rw [hn]; rfl
  have s : ∀ v : BitVec 32, IntOp.shli .vector v 23#32 = v <<< 23 := fun v => by
    unfold IntOp.shli
    exact (if_pos (by decide)).trans (BitVec.shiftLeft_eq' ..)
  unfold word
  exact (congrArg (fun v => IntOp.shli .vector v 23#32) e).trans (s _)

theorem fields : ∀ n : Fin 255, ((BitVec.ofNat 32 n.val <<< 23).extractLsb' 31 1 == 1#1) = false ∧
    ((BitVec.ofNat 32 n.val <<< 23).extractLsb' 23 8).toNat = n.val ∧ ((BitVec.ofNat 32 n.val <<< 23).extractLsb' 0 23).toNat = 0 := by
  decide +kernel

theorem word_val (E : ℤ) (h0 : -126 ≤ E) (h1 : E ≤ 127) : Ideal.ofBits .f32 (word (BitVec.ofInt 32 E)) = (((2 : ℝ) ^ E : ℝ) : EReal) := by
  rw [word_ofInt E (by omega) h1]
  obtain ⟨a, b, c⟩ := fields ⟨(E + 127).toNat, by omega⟩
  rw [f32_val _ false (E + 127).toNat 0 a b c (by omega) (by omega)]
  refine congrArg (fun r : ℝ => (r : EReal)) ?_
  rw [show (((E + 127).toNat : ℕ) : ℤ) = E + 127 by omega, show E + 127 - 127 - 23 = E - 23 by ring, zpow_sub₀ (by norm_num)]
  norm_num
  ring

theorem word_zero : Ideal.ofBits .f32 (word (BitVec.ofInt 32 (-127))) = 0 := by
  rw [word_ofInt _ (by omega) (by omega)]
  exact Ideal.ofBits_zero_f32

/-- The exponent before any correction. -/
def e0 (x : EReal) : BitVec 32 :=
  Ideal.fptosi 32 (min (max (Ideal.liftRound Int.floor (Ideal.log x * (((Real.log 2)⁻¹ : ℝ) : EReal)) + 1) (Ideal.ofBits .f32 3271294976#32))
    (Ideal.ofBits .f32 1123024896#32))

/-- The first correction. -/
def e1 (x : EReal) : BitVec 32 := if x < Ideal.ofBits .f32 (word (IntOp.subi (e0 x) 1#32)) then IntOp.subi (e0 x) 1#32 else e0 x

/-- The second correction. -/
def e2 (x : EReal) : BitVec 32 := if Ideal.ofBits .f32 (word (e1 x)) ≤ x then IntOp.addi (e1 x) 1#32 else e1 x

/-- The exponent as the integer program has it. -/
def kexpo (x : EReal) : BitVec 32 :=
  Scalar.select (BitVec.ofBool (decide (x = 0))) (0#32) (IntOp.minsi (IntOp.maxsi (e2 x) 4294967170#32) 120#32)

/-- The exponent as the float program has it. -/
def rexpo (x : EReal) : EReal :=
  Scalar.select (BitVec.ofBool (decide (x = 0))) 0 (min (Ideal.ofBits .f32 1123024896#32) (max (Ideal.ofBits .f32 3271294976#32)
    (Ideal.liftRound Int.floor (Ideal.log x * (((Real.log 2)⁻¹ : ℝ) : EReal)) + 1)))

theorem logs (r : ℝ) (hr : 0 < r) : Ideal.liftRound Int.floor (Ideal.log (r : EReal) * (((Real.log 2)⁻¹ : ℝ) : EReal)) + 1 =
    (((⌊Real.log r * (Real.log 2)⁻¹⌋ + 1 : ℤ) : ℝ) : EReal) := by
  have : Ideal.log (r : EReal) = (Real.log r : EReal) := by
    show (if r ≤ 0 then ⊥ else (Real.log r : EReal)) = _
    rw [if_neg (by linarith)]
  rw [this, ← EReal.coe_mul, Ideal.liftRound_coe]
  push_cast
  rfl

theorem log2_pos : 0 < Real.log 2 := Real.log_pos (by norm_num)

theorem logs_top : Ideal.liftRound Int.floor (Ideal.log ⊤ * (((Real.log 2)⁻¹ : ℝ) : EReal)) + 1 = ⊤ := by
  rw [show Ideal.log ⊤ = ⊤ from rfl, EReal.top_mul_coe_of_pos (inv_pos.2 log2_pos), Ideal.liftRound_top]
  rfl

theorem coe_max' (a b : ℝ) : max (a : EReal) (b : EReal) = ((max a b : ℝ) : EReal) := (EReal.coe_strictMono.monotone.map_max).symm
theorem coe_min' (a b : ℝ) : min (a : EReal) (b : EReal) = ((min a b : ℝ) : EReal) := (EReal.coe_strictMono.monotone.map_min).symm

/-- The powers of two around a positive real. -/
theorem pow_le (r : ℝ) (hr : 0 < r) : (2 : ℝ) ^ ⌊Real.log r * (Real.log 2)⁻¹⌋ ≤ r ∧ r < (2 : ℝ) ^ (⌊Real.log r * (Real.log 2)⁻¹⌋ + 1) := by
  have h2 := log2_pos
  set n := ⌊Real.log r * (Real.log 2)⁻¹⌋ with hn
  have hf := Int.floor_le (Real.log r * (Real.log 2)⁻¹)
  have hg := Int.lt_floor_add_one (Real.log r * (Real.log 2)⁻¹)
  rw [← hn] at hf hg
  have e : Real.log r * (Real.log 2)⁻¹ * Real.log 2 = Real.log r := by field_simp
  constructor
  · rw [← Real.log_le_log_iff (by positivity) hr, Real.log_zpow]
    calc (n : ℝ) * Real.log 2 ≤ _ := mul_le_mul_of_nonneg_right hf h2.le
      _ = _ := e
  · rw [← Real.log_lt_log_iff hr (by positivity), Real.log_zpow]
    calc Real.log r = _ := e.symm
      _ < ((n : ℝ) + 1) * Real.log 2 := mul_lt_mul_of_pos_right hg h2
      _ = _ := by push_cast; ring

theorem rexpo_eq (x : EReal) (hx : 0 ≤ x) : rexpo x = ((expo x : ℝ) : EReal) := by
  unfold rexpo expo
  by_cases h0 : x = 0
  · rw [if_pos h0, decide_eq_true h0]; simp [Scalar.select]
  rw [if_neg h0, decide_eq_false h0, lo_val, hi_val]
  show min _ _ = _
  by_cases ht : x = ⊤
  · rw [if_pos ht, ht, logs_top]
    rw [max_eq_right le_top, min_eq_left le_top]; norm_num
  rw [if_neg ht]
  lift x to ℝ using ⟨ht, fun h => by rw [h] at hx; exact absurd hx (by simp)⟩
  have hr : 0 < x := lt_of_le_of_ne (by exact_mod_cast hx) (fun h => h0 (by rw [← h]; rfl))
  rw [logs x hr, EReal.toReal_coe, coe_max', coe_min']
  congr 1
  rw [min_max_distrib_left]
  push_cast
  rw [min_eq_right (by norm_num : (-126:ℝ) ≤ 120)]

/-- The words of the clamped exponents. -/
theorem clamp_words : ∀ n : Fin 248, IntOp.minsi (IntOp.maxsi (BitVec.ofInt 32 ((n.val : ℤ) - 126)) 4294967170#32) 120#32 =
    BitVec.ofInt 32 (min 120 ((n.val : ℤ) - 126)) := by decide +kernel

theorem clamp_word (E : ℤ) (h0 : -126 ≤ E) (h1 : E ≤ 121) : IntOp.minsi (IntOp.maxsi (BitVec.ofInt 32 E) 4294967170#32) 120#32 =
    BitVec.ofInt 32 (min 120 E) := by
  have := clamp_words ⟨(E + 126).toNat, by omega⟩
  dsimp only at this
  rwa [show (((E + 126).toNat : ℕ) : ℤ) - 126 = E by omega] at this

theorem subi_one (E : ℤ) : IntOp.subi (BitVec.ofInt 32 E) 1#32 = BitVec.ofInt 32 (E - 1) := by
  rw [IntOp.subi, BitVec.sub_eq_add_neg, sub_eq_add_neg, BitVec.ofInt_add]; rfl
theorem addi_one (E : ℤ) : IntOp.addi (BitVec.ofInt 32 E) 1#32 = BitVec.ofInt 32 (E + 1) := by
  rw [IntOp.addi, BitVec.ofInt_add]; rfl

theorem e0_real (x : EReal) (m : ℤ) (h : min (max (Ideal.liftRound Int.floor (Ideal.log x * (((Real.log 2)⁻¹ : ℝ) : EReal)) + 1) ((-126 : ℝ) : EReal)) ((120 : ℝ) : EReal) = ((m : ℝ) : EReal))
    (h0 : -126 ≤ m) (h1 : m ≤ 120) : e0 x = BitVec.ofInt 32 m := by
  unfold e0
  rw [lo_val, hi_val, h, Ideal.fptosi, Ideal.toIntClamped_coe]
  congr 1
  simp only [Int.floor_intCast, Int.ceil_intCast, ite_self]
  norm_num
  omega

/-- The corrections change nothing below the upper clamp. -/
theorem kexpo_of (x : EReal) (hx : x ≠ 0) (m : ℤ) (h0 : -126 ≤ m) (h1 : m ≤ 120) (he : e0 x = BitVec.ofInt 32 m)
    (hl : -126 < m → (((2 : ℝ) ^ (m - 1) : ℝ) : EReal) ≤ x) (hp : 0 ≤ x) (hu : m < 120 → x < (((2 : ℝ) ^ m : ℝ) : EReal)) :
    kexpo x = BitVec.ofInt 32 m := by
  have k1 : e1 x = BitVec.ofInt 32 m := by
    unfold e1
    rw [he, subi_one, if_neg]
    rw [not_lt]
    by_cases hm : m = -126
    · rw [hm]; rw [show (-126 - 1 : ℤ) = -127 by norm_num, word_zero]; exact hp
    · rw [word_val _ (by omega) (by omega)]; exact hl (by omega)
  have k2 : e2 x = BitVec.ofInt 32 m ∨ (m = 120 ∧ e2 x = BitVec.ofInt 32 121) := by
    unfold e2
    rw [k1, addi_one, word_val _ h0 (by omega)]
    by_cases hm : m < 120
    · left; rw [if_neg (not_le.2 (hu hm))]
    · have hm : m = 120 := by omega
      subst hm
      split
      · right; exact ⟨rfl, rfl⟩
      · left; rfl
  unfold kexpo
  rw [decide_eq_false hx]
  show IntOp.minsi _ _ = _
  rcases k2 with h | ⟨hm, h⟩
  · rw [h, clamp_word m h0 (by omega), min_eq_right h1]
  · rw [h, clamp_word 121 (by omega) (by omega), hm]; rfl

theorem kexpo_eq (x : EReal) (hx : 0 ≤ x) : kexpo x = BitVec.ofInt 32 (expo x) := by
  by_cases h0 : x = 0
  · unfold kexpo expo
    rw [if_pos h0, decide_eq_true h0]; rfl
  by_cases ht : x = ⊤
  · have : expo x = 120 := by unfold expo; rw [if_neg h0, if_pos ht]
    rw [this]
    refine kexpo_of x h0 120 (by omega) (by omega) (e0_real x 120 ?_ (by omega) (by omega)) (fun _ => by rw [ht]; exact le_top) hx (fun h => absurd h (by omega))
    rw [ht, logs_top, max_eq_left le_top, min_eq_right le_top]; norm_num
  have hxe : expo x = max (-126) (min 120 (⌊Real.log x.toReal * (Real.log 2)⁻¹⌋ + 1)) := by unfold expo; rw [if_neg h0, if_neg ht]
  lift x to ℝ using ⟨ht, fun h => by rw [h] at hx; exact absurd hx (by simp)⟩
  have hr : 0 < x := lt_of_le_of_ne (by exact_mod_cast hx) (fun h => h0 (by rw [← h]; rfl))
  rw [EReal.toReal_coe] at hxe
  obtain ⟨p1, p2⟩ := pow_le x hr
  have hb := expo_bounds (x : EReal)
  refine kexpo_of x h0 _ hb.1 hb.2 (e0_real _ _ ?_ hb.1 hb.2) (fun hm => ?_) hx (fun hm => ?_)
  · rw [logs x hr, coe_max', coe_min', hxe]
    congr 1
    push_cast
    rw [min_max_distrib_right, max_comm, min_comm (((⌊_⌋ : ℤ) : ℝ) + 1)]
    rw [min_eq_left (by norm_num : (-126:ℝ) ≤ 120)]
  · refine EReal.coe_le_coe_iff.2 (le_trans ?_ p1)
    refine zpow_le_zpow_right₀ (by norm_num) ?_
    omega
  · refine EReal.coe_lt_coe_iff.2 (lt_of_lt_of_le p2 ?_)
    refine zpow_le_zpow_right₀ (by norm_num) ?_
    omega

/-- The scale. -/
def scale (x : EReal) : EReal := ((2 : ℝ) ^ expo x : ℝ)
/-- Its reciprocal. -/
def inv (x : EReal) : EReal := ((2 : ℝ) ^ (-expo x) : ℝ)

theorem scale_kernel (x : EReal) (hx : 0 ≤ x) : Ideal.ofBits .f32 (word (kexpo x)) = scale x := by
  rw [kexpo_eq x hx, word_val _ (expo_bounds x).1 (by have := (expo_bounds x).2; omega)]; rfl

theorem inv_kernel (x : EReal) (hx : 0 ≤ x) : Ideal.ofBits .f32 (IntOp.shli .vector (IntOp.subi 127#32 (kexpo x)) 23#32) = inv x := by
  have hb := expo_bounds x
  have : IntOp.subi 127#32 (kexpo x) = IntOp.addi (BitVec.ofInt 32 (-expo x)) 127#32 := by
    rw [kexpo_eq x hx, IntOp.subi, IntOp.addi, BitVec.ofInt_neg, BitVec.sub_eq_add_neg, BitVec.add_comm]
  rw [this]
  show Ideal.ofBits .f32 (word _) = _
  rw [word_val _ (by omega) (by omega)]; rfl

theorem exp2_int (e : ℤ) : Ideal.exp2 ((e : ℝ) : EReal) = (((2 : ℝ) ^ e : ℝ) : EReal) := by
  rw [Ideal.exp2_coe]
  congr 1
  exact Real.rpow_intCast 2 e

theorem scale_ref (x : EReal) (hx : 0 ≤ x) : Ideal.exp2 (rexpo x) = scale x := by
  rw [rexpo_eq x hx, exp2_int]; rfl

theorem inv_ref (x : EReal) (hx : 0 ≤ x) : Ideal.exp2 (0 - rexpo x) = inv x := by
  rw [rexpo_eq x hx, show (0 : EReal) - ((expo x : ℝ) : EReal) = (((-expo x : ℤ) : ℝ) : EReal) by push_cast; simp, exp2_int]; rfl

/-- The largest of ninety-six features, over 448. -/
def amax (F : Fin 96 → EReal) : EReal := Finset.univ.sup (fun f => max (F f) (-(F f))) * Ideal.ofBits .f32 991054117#32

/-- A feature quantised. -/
def quant (F : Fin 96 → EReal) (f : Fin 96) : EReal :=
  min (Ideal.ofBits .f32 0x43E00000#32) (max (Ideal.ofBits .f32 0xC3E00000#32) (F f * inv (amax F)))

/-- A decoded value. -/
def decoded (F : Fin 96 → EReal) (dec : Fin 96 → EReal) (s b : EReal) : EReal := (∑ f, quant F f * dec f) * scale (amax F) * s + b

theorem abs_nonneg (x : EReal) : 0 ≤ max x (-x) := by
  rcases le_total 0 x with h | h
  · exact le_max_of_le_left h
  · exact le_max_of_le_right (EReal.neg_nonneg.2 h)

theorem third_pos : (0 : EReal) ≤ Ideal.ofBits .f32 991054117#32 := by
  rw [f32_val 991054117#32 false 118 0x124925 (by decide) (by decide) (by decide) (by decide) (by decide)]
  rw [EReal.coe_nonneg, if_neg (by decide)]; positivity

theorem amax_nonneg (F : Fin 96 → EReal) : 0 ≤ amax F := by
  refine mul_nonneg ?_ third_pos
  exact le_trans (abs_nonneg (F 0)) (Finset.le_sup (f := fun f => max (F f) (-(F f))) (Finset.mem_univ 0))

theorem bot_val : Ideal.ofBits .f32 4286578688#32 = ⊥ := by
  show Ideal.ieee 8 23 (4286578688#32) = ⊥
  unfold Ideal.ieee
  dsimp only
  rw [if_pos (by decide), if_pos (by decide), if_pos (by decide)]

/-- A fold of `max` from the bottom is the supremum. -/
theorem fold_sup {ι : Type} [Fintype ι] (g : ι → EReal) : Finset.fold max (Ideal.ofBits .f32 4286578688#32) g Finset.univ = Finset.univ.sup g := by
  rw [bot_val]; rfl

/-- Zero padding changes no largest magnitude. -/
theorem sup_pad (F : Fin 96 → EReal) : Finset.univ.sup (fun x : Fin 128 => max (if h : x.val < 96 then F ⟨x.val, h⟩ else 0) (-(if h : x.val < 96 then F ⟨x.val, h⟩ else 0)))
    = Finset.univ.sup (fun f => max (F f) (-(F f))) := by
  apply le_antisymm
  · refine Finset.sup_le fun x _ => ?_
    by_cases h : x.val < 96
    · simp only [dif_pos h]; exact Finset.le_sup (f := fun f => max (F f) (-(F f))) (Finset.mem_univ _)
    · simp only [dif_neg h]
      refine le_trans ?_ (le_trans (abs_nonneg (F 0)) (Finset.le_sup (f := fun f => max (F f) (-(F f))) (Finset.mem_univ 0)))
      simp
  · refine Finset.sup_le fun f _ => ?_
    have := Finset.le_sup (f := fun x : Fin 128 => max (if h : x.val < 96 then F ⟨x.val, h⟩ else 0) (-(if h : x.val < 96 then F ⟨x.val, h⟩ else 0))) (Finset.mem_univ (⟨f.val, by omega⟩ : Fin 128))
    simpa only [dif_pos f.isLt] using this

end Cert.Decode
-- ==== Proof.Spec.lean ====
module

public import proofs.«01_k».proof.Proof.Blend
public import proofs.«01_k».proof.Proof.Decode
public import Idealize.ShloMosaic.Lib.Pointwise

/-! # The results, from the arguments

A slot's words lie in the gathered column that its number is permuted to; a tile's features are the blend of its slots; its three results
are the quantised features, their scales and the decoded values. -/

@[expose] public section

noncomputable section

namespace Cert.Spec

open Idealize.ShloMosaic
open Cert.Blend Cert.Decode

/-- The gathered column, within its tile, of a slot. -/
def col (i : ℕ) : ℕ := i / 256 * 256 + i / 16 % 2 * 128 + i / 32 % 8 * 16 + i % 16

theorem col_lt (i : ℕ) (h : i < 12288) : col i < 12288 := by
  unfold col
  have a : i / 256 < 48 := by omega
  have b : i / 16 % 2 < 2 := by omega
  have c : i / 32 % 8 < 8 := by omega
  have d : i % 16 < 16 := by omega
  omega

/-- Word `r` of slot `i` of a tile. -/
def slotW (a2 : Vec Ideal ⟨2, ![32, 86016]⟩ .i32) (t : Fin 7) (r i : ℕ) : BitVec 32 :=
  a2 (ix2 ⟨r % 32, by omega⟩ ⟨t.val * 12288 + col i % 12288, by omega⟩)

/-- The parameters of the slots below `L` stand for reals. -/
def Finite (ws : ℕ → ℕ → BitVec 32) (L : BitVec 32) : Prop :=
  ∀ r, 24 ≤ r → r < 30 → ∀ i : ℕ, i < 12288 → (i : ℤ) < L.toInt → ws r i &&& 2139095040#32 ≠ 2139095040#32

/-- What the arguments must satisfy: a tile with a slot has a real origin, and its slots' parameters are real. -/
def Good (a0 : Vec Ideal ⟨2, ![7, 2]⟩ .f32) (a1 : Vec Ideal ⟨1, ![7]⟩ .i32) (a2 : Vec Ideal ⟨2, ![32, 86016]⟩ .i32) : Prop :=
  ∀ t : Fin 7, (0 < (a1 (ix1 t) : BitVec 32).toInt → a0 (ix2 t 0) = ((a0 (ix2 t 0) : EReal).toReal : EReal) ∧ a0 (ix2 t 1) = ((a0 (ix2 t 1) : EReal).toReal : EReal))
    ∧ Finite (slotW a2 t) (a1 (ix1 t))

/-- A tile's features at a pixel. -/
def feats (a0 : Vec Ideal ⟨2, ![7, 2]⟩ .f32) (a1 : Vec Ideal ⟨1, ![7]⟩ .i32) (a2 : Vec Ideal ⟨2, ![32, 86016]⟩ .i32) (t : Fin 7) (p : Fin 256) : Fin 96 → EReal :=
  fun f => blend (slotW a2 t) (a1 (ix1 t)) (a0 (ix2 t 0) : EReal).toReal (a0 (ix2 t 1) : EReal).toReal 12288 f.val p

end Cert.Spec
-- ==== Proof.PreSlots.lean ====
/-
  The precondition of the value claim, read: every tile has at most 12288 slots, a tile with a slot has a real origin, and its slots'
  parameters are real.
-/
module

public import proofs.«01_k».proof.Defs
public import proofs.«01_k».proof.Proof.Spec
public import Idealize.ShloMosaic.Lib.Affine
public import Idealize.ShloMosaic.Lib.ReduceAll
public import Idealize.ShloMosaic.Lib.Pointwise

@[expose] public section

set_option maxRecDepth 65536

noncomputable section

namespace Cert.Pre

open Idealize.ShloMosaic Cert.Pre_slots_finite Cert.Spec

instance slotsFacts : Cert.Pre_slots_finite.Facts where
  shapeCasts_S32x86016_S32x7x48x2x8x16 := by decide
  transposes_S32x7x48x2x8x16_S7x32x48x8x2x16_1_0_2_4_3_5 := by decide
  shapeCasts_S7x32x48x8x2x16_S7x32x12288 := by decide
  slices_S7x32x12288_S7x6x12288_0_24_0 := by decide
  bcast_S_S7x6x12288 := by decide
  bcast_S12288_S1x12288_1 := by decide
  bcast_S7_S7x1_0 := by decide
  bcast_S1x12288_S7x12288_0_1 := by decide
  bcast_S7x1_S7x12288_0_1 := by decide
  bcast_S_S7x2 := by decide
  bcast_S_S7 := by decide
  bcast_S7x1_S7x2_0_1 := by decide
  bcast_S7x12288_S7x1x12288_0_2 := by decide
  bcast_S7x1x12288_S7x6x12288_0_1_2 := by decide
  reducesTo_S7x6x12288_S_d0_1_2 := by decide
  h_S_ := by decide
  reducesTo_S7x2_S_d0_1 := by decide
  reducesTo_S7_S_d0 := by decide

open Cert.Pre_slots_finite.Facts

/-- The words of the parameters by tile and slot. -/
def pwords (x : IVec S32x86016 32) : IVec S7x6x12288 32 :=
  extractStridedSlice S7x6x12288 ![0, 24, 0] (shapeCast S7x32x12288 (transpose S7x32x48x8x2x16 [1, 0, 2, 4, 3, 5]
    (shapeCast S32x7x48x2x8x16 x shapeCasts_S32x86016_S32x7x48x2x8x16) transposes_S32x7x48x2x8x16_S7x32x48x8x2x16_1_0_2_4_3_5)
    shapeCasts_S7x32x48x8x2x16_S7x32x12288) slices_S7x32x12288_S7x6x12288_0_24_0

theorem pwords_apply (x : IVec S32x86016 32) (t : Fin 7) (r : Fin 6) (k : Fin 12288) : pwords x (ValueIdx.ix3 t r k) = slotW x t (24 + r.val) k := by
  unfold pwords
  pointwise
  unfold slotW
  have hc := col_lt k.val k.isLt
  refine congrArg x ?_
  refine congrArg₂ ix2 (Fin.ext ?_) (Fin.ext ?_)
  · have := r.isLt
    exact (Nat.mod_eq_of_lt (by omega : 24 + r.val < 32)).symm
  · show t.val * 12288 + k.val / 256 * 256 + k.val / 16 % 2 * 128 + k.val / 32 % 8 * 16 + k.val % 16 = t.val * 12288 + col k.val % 12288
    rw [Nat.mod_eq_of_lt hc]
    unfold col
    omega

/-- The three conjuncts of the precondition. -/
theorem parts (a0 : FVec Ideal S7x2 .f32) (a1 : IVec S7 32) (a2 : IVec S32x86016 32) (a3 a4 a5) (h : fn a0 a1 a2 a3 a4 a5 = fun _ => 1#1) :
    (∀ t r k, IntOp.ori (IntOp.cmpi .ne (IntOp.andi (pwords a2 (ValueIdx.ix3 t r k)) 2139095040#32) 2139095040#32)
      (IntOp.cmpi .sge (BitVec.ofNat 32 (k : Fin 12288).val) (a1 (ix1 t))) = 1#1)
    ∧ (∀ t j, IntOp.ori (FloatOps.cmpf .olt (FloatOps.absf (a0 (ix2 t j))) (Ideal.ofBits .f32 0x7F800000#32)) (IntOp.cmpi .sle (a1 (ix1 t)) 0#32) = 1#1)
    ∧ ∀ t, IntOp.cmpi .sle (a1 (ix1 t)) 12288#32 = 1#1 := by
  have e := congrFun h (fun a => a.elim0)
  unfold fn fn_part1 at e
  dsimp only at e
  obtain ⟨e12, e3⟩ := IntOp.andi_eq_one.mp e
  obtain ⟨e1, e2⟩ := IntOp.andi_eq_one.mp e12
  refine ⟨fun t r k => ?_, fun t j => ?_, fun t => ?_⟩
  · have := Host.reduce_andi_all _ _ _ _ _ e1 (ValueIdx.ix3 t r k)
    change ori (cmpi .ne (andi (pwords a2) _) _) _ (ValueIdx.ix3 t r k) = 1#1 at this
    refine Eq.trans (Eq.symm ?_) this
    generalize pwords a2 = y
    pointwise
  · have := Host.reduce_andi_all _ _ _ _ _ e2 (ix2 t j)
    refine Eq.trans (Eq.symm ?_) this
    pointwise
  · have := Host.reduce_andi_all _ _ _ _ _ e3 (ix1 t)
    exact this

/-- A number of magnitude below infinity is real. -/
theorem real_of_lt (x : Ideal .f32) (h : FloatOps.cmpf .olt (FloatOps.absf x) (Ideal.ofBits .f32 0x7F800000#32) = 1#1) :
    x = ((x : EReal).toReal : EReal) := by
  have hi : Ideal.ofBits .f32 0x7F800000#32 = (⊤ : EReal) := by
    show Ideal.ieee 8 23 (0x7F800000#32) = ⊤
    unfold Ideal.ieee
    simp
  have h' : Ideal.cmp .olt (max (x : EReal) (-x)) (Ideal.ofBits .f32 0x7F800000#32) = 1#1 := h
  rw [hi] at h'
  have hlt : max (x : EReal) (-x) < ⊤ := by
    by_contra hn
    unfold Ideal.cmp at h'
    simp [hn] at h'
  have h1 : (x : EReal) ≠ ⊤ := ne_of_lt (lt_of_le_of_lt (le_max_left _ _) hlt)
  have h2 : (x : EReal) ≠ ⊥ := by
    intro e
    have := lt_of_le_of_lt (le_max_right (x : EReal) (-x)) hlt
    rw [e] at this
    exact absurd this (by simp)
  exact (EReal.coe_toReal h1 h2).symm

/-- Every tile has at most 12288 slots. -/
theorem fits_of_pre (a0 : FVec Ideal S7x2 .f32) (a1 : IVec S7 32) (a2 : IVec S32x86016 32) (a3 a4 a5)
    (h : fn a0 a1 a2 a3 a4 a5 = fun _ => 1#1) (y : S7.Idx) : (a1 y).toInt ≤ 12288 := by
  have e := IntOp.cmpi_sle.mp ((parts a0 a1 a2 a3 a4 a5 h).2.2 (y 0))
  rw [show y = ix1 (y 0) by funext a; match a with | ⟨0, _⟩ => rfl]
  exact e

/-- Origins and parameters are real where a slot is. -/
theorem good_of_pre (a0 : FVec Ideal S7x2 .f32) (a1 : IVec S7 32) (a2 : IVec S32x86016 32) (a3 a4 a5)
    (h : fn a0 a1 a2 a3 a4 a5 = fun _ => 1#1) : Good a0 a1 a2 := by
  obtain ⟨h1, h2, _⟩ := parts a0 a1 a2 a3 a4 a5 h
  intro t
  refine ⟨fun hp => ?_, fun r hr hr' i hi hl => ?_⟩
  · have k : ∀ j, FloatOps.cmpf .olt (FloatOps.absf (a0 (ix2 t j))) (Ideal.ofBits .f32 0x7F800000#32) = 1#1 := fun j =>
      (IntOp.ori_eq_one.mp (h2 t j)).resolve_right fun hn => by
        have := IntOp.cmpi_sle.mp hn
        have z : (0#32 : BitVec 32).toInt = 0 := by decide
        rw [z] at this
        exact absurd hp (by exact not_lt.mpr this)
    exact ⟨real_of_lt _ (k 0), real_of_lt _ (k 1)⟩
  · have e := (IntOp.ori_eq_one.mp (h1 t ⟨r - 24, by omega⟩ ⟨i, hi⟩)).resolve_right fun hn => by
      have := IntOp.cmpi_sge.mp hn
      have z : (BitVec.ofNat 32 i).toInt = i := by
        rw [BitVec.toInt_eq_toNat_of_lt (by rw [BitVec.toNat_ofNat]; omega), BitVec.toNat_ofNat, Nat.mod_eq_of_lt (by omega)]
      rw [show (BitVec.ofNat 32 (⟨i, hi⟩ : Fin 12288).val).toInt = i from z] at this
      exact absurd hl (not_lt.mpr this)
    have e' := IntOp.cmpi_ne.mp e
    rw [pwords_apply] at e'
    rw [show 24 + (⟨r - 24, by omega⟩ : Fin 6).val = r by show 24 + (r - 24) = r; omega] at e'
    exact e'

end Cert.Pre

end
-- ==== Proof.Chunk.lean ====
/-
  One trip of the main loop in closed form: the opacities of a chunk's 256 slots at a half tile's 128 pixels, the running
  products, the weights, and what the trip stores.
-/
module

public import proofs.«01_k».proof.Proof.Gen.KernelIdeal.Loops

@[expose] public section

set_option maxRecDepth 65536

noncomputable section

namespace Cert.KernelIdeal.Chunk

open Cert.KernelIdeal Cert.KernelIdeal.Gen
open Idealize.ShloMosaic Idealize.ShloMosaic.TcCoe Idealize.SL Idealize.SL.Sem

variable {F : FTy → Type} [FloatOps F] [Named F]

theorem slicePw (h j : ℕ) : S256x256.Slices ![8 * (j % 32), 128 * (h % 2)] S8x128 :=
  ⟨rfl, fun a => by fin_cases a <;> simp [S256x256, S8x128] <;> omega⟩
theorem sliceOp (j : ℕ) : S256x128.Slices ![8 * (j % 32), 0] S8x128 :=
  ⟨rfl, fun a => by fin_cases a <;> simp [S256x128, S8x128] <;> omega⟩

/-- The vector of ones. -/
def one : FVec F S8x128 .f32 := broadcast S8x128 (Scalar.ofBits .f32 0x3F800000#32)

/-- The opacities of the eight slots `32 s + j` (row `s`) at the 128 pixels of half `h`: min(0.99, op · 2^power). -/
def al (pw : FVec F S256x256 .f32) (op : FVec F S256x128 .f32) (h j : ℕ) : FVec F S8x128 .f32 :=
  minimumf (broadcast S8x128 (Scalar.ofBits .f32 0x3F7D70A4#32))
    (mulf (extractStridedSlice S8x128 ![8 * (j % 32), 0] op (sliceOp j)) (exp2 (extractStridedSlice S8x128 ![8 * (j % 32), 128 * (h % 2)] pw (slicePw h j))))

/-- In each row the product of 1 - opacity over the row's first `j` slots. -/
def run (pw : FVec F S256x256 .f32) (op : FVec F S256x128 .f32) (h : ℕ) : ℕ → FVec F S8x128 .f32
  | 0 => one
  | j + 1 => mulf (run pw op h j) (subf one (al pw op h j))

def ws (pw : FVec F S256x256 .f32) (op : FVec F S256x128 .f32) (h j : ℕ) : FVec F S8x128 .f32 :=
  mulf (al pw op h j) (run pw op h j)

def shift1 (v60 : IVec S8x128 32) (n : BitVec 32) (x : FVec F S8x128 .f32) : FVec F S8x128 .f32 :=
  select (cmpi .sge v60 (broadcast S8x128 n)) (dynamicRotate 0 n none x rotates_S8x128_d0) one

/-- Row `s` of the product over the rows before `s`. -/
def pre (v60 : IVec S8x128 32) (r : FVec F S8x128 .f32) : FVec F S8x128 .f32 :=
  have a := shift1 v60 1#32 r
  have b := mulf a (shift1 v60 1#32 a)
  have c := mulf b (shift1 v60 2#32 b)
  mulf c (shift1 v60 4#32 c)

/-- The half tile's weights, before rounding: slot `32 s + j` in row `8 j + s`. -/
def half (pw : FVec F S256x256 .f32) (op : FVec F S256x128 .f32) (v60 : IVec S8x128 32) (h : ℕ) (carry : Vec F S8x128 .f32) : FVec F S256x128 .f32 :=
  have k := mulf carry (pre v60 (run pw op h 32))
  concatenate S256x128 0 (List.ofFn fun j : Fin 32 => ⟨S8x128, mulf (ws pw op h j) k⟩) concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S256x128_d0

/-- The tile's weights. -/
def wts (pw : FVec F S256x256 .f32) (op : FVec F S256x128 .f32) (v60 : IVec S8x128 32) (c0 c1 : Vec F S8x128 .f32) : FVec F S256x256 .bf16 :=
  k0_pay246 (truncf .bf16 (half pw op v60 0 c0) bitsLt_bf16_f32) (half pw op v60 1 c1)

/-- What a half's carry becomes: times the product over the whole chunk. -/
def nextCarry (pw : FVec F S256x256 .f32) (op : FVec F S256x128 .f32) (v60 : IVec S8x128 32) (h : ℕ) (carry : Vec F S8x128 .f32) : FVec F S8x128 .f32 :=
  k0_pay129 carry (mulf (pre v60 (run pw op h 32)) (run pw op h 32))

/-- The chunk's six parameter rows and scale row, in slot order. -/
abbrev pars (v59 : IVec S8x128 32) (x : Vec F S8x256 .i32) : FVec F S8x256 .f32 := k0_pay8 v59 x

/-- The chunk's exponents (base 2). -/
def power (v1 : BitVec 32) (v4 v7 : F .f32) (v59 : IVec S8x128 32) (v147 : IVec S1x256 32) (x : Vec F S8x256 .i32) (mono : Vec F S32x256 .bf16) (k : ℕ) : FVec F S256x256 .f32 :=
  k0_pay14 v1 v147 (Scf.iv 0#32 1#32 k) (k0_pay8 v59 x) (k0_pay9 v4 v59 x) (k0_pay10 v7 v59 x) (k0_pay11 v59 x) (k0_pay12 v59 x) k0_pay13 mono

/-- The chunk's 24 rows of words, in slot order. -/
def words (v59 : IVec S8x128 32) (x : Vec F S24x256 .i32) : IVec S24x256 32 :=
  k0_pay7 v59 x (k0_pay2 v59 x) (k0_pay3 v59 x) (k0_pay4 x) (k0_pay5 v59) (k0_pay6 v59)

section
variable (𝒱 : Variants) (c : Dev nD) (bd : Option 𝒱.V) (i : grid0.Coords) (arg1 : Memref sig .tc .smem S7x2 .f32) (harg1 : arg1.IsWhole) (arg2 : Memref sig .tc .smem S7 .i32) (harg2 : arg2.IsWhole) (arg3 : Memref sig .tc .vmem S32x12288 .i32) (harg3 : arg3.IsWhole) (arg4 : Memref sig .tc .vmem S32x256 .bf16) (harg4 : arg4.IsWhole) (arg5 : Memref sig .tc .vmem S96x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1x256x512 .bf16) (harg8 : arg8.IsWhole) (arg9 : Memref sig .tc .vmem S1x96x256 .fp8e4m3) (harg9 : arg9.IsWhole) (arg10 : Memref sig .tc .vmem S1x1x256 .f32) (harg10 : arg10.IsWhole) (arg11 : Memref sig .tc .vmem S96x256 .f32) (harg11 : arg11.IsWhole) (arg12 : Memref sig .tc .vmem S8x256 .f32) (harg12 : arg12.IsWhole) (v1 : Elt F .i32) (k0_hw1 : k0_chk1 v1) (v4 : F .f32) (v7 : F .f32) (v59 : IVec S8x128 32) (v60 : IVec S8x128 32) (v106 : IVec S1x256 32) (v122 : IVec S1x256 32) (c8_i32_36 : BitVec 32) (v124 : IVec S1x256 32) (v127 : IVec S1x256 32) (c0_i32_38 : BitVec 32) (X_arg3 : BufTy.Contents (Elt F) arg3.view.ty) (X_arg4 : BufTy.Contents (Elt F) arg4.view.ty) (k : Fin (k0_t1_loop v1).trips)
  (acc : BitVec 32) (f11 : BufTy.Contents (Elt F) arg11.view.ty) (f12 : BufTy.Contents (Elt F) arg12.view.ty)

set_option maxHeartbeats 4000000 in
/-- The accumulator's store: plus the features times the weights. -/
theorem trip_acc : (trip_k0_t1 (F := F) 𝒱 c bd i arg1 harg1 arg2 harg2 arg3 harg3 arg4 harg4 arg5 harg5 arg6 harg6 arg7 harg7 arg8 harg8 arg9 harg9 arg10 harg10 arg11 harg11 arg12 harg12 v1 k0_hw1 v4 v7 v59 v60 v106 v122 c8_i32_36 v124 v127 c0_i32_38 X_arg3 X_arg4 k).2.1 acc f11 f12 = [⟨Rect.unit (s := S96x256) ![0, 0] S96x256.size inb_S96x256_S96x256_0_0,
    k0_pay509 (wts (power v1 v4 v7 v59 (k0_pay508 v106 v122 c8_i32_36 v124 v127 c0_i32_38) (View.readAt (Elt F) arg3.view (Rect.unit (s := S32x12288) (k0_off5 v1 k) S8x256.size (k0_off5_inb v1 k0_hw1 k)).toLoadRect X_arg3) (View.readAt (Elt F) arg4.view (Rect.unit (s := S32x256) ![0, 0] S32x256.size inb_S32x256_S32x256_0_0).toLoadRect X_arg4) k) (k0_pay15 (k0_pay8 v59 (View.readAt (Elt F) arg3.view (Rect.unit (s := S32x12288) (k0_off5 v1 k) S8x256.size (k0_off5_inb v1 k0_hw1 k)).toLoadRect X_arg3))) v60 (View.readAt (Elt F) arg12.view (Rect.unit (s := S8x256) ![0, 0] S8x128.size inb_S8x256_S8x128_0_0).toLoadRect f12) (View.readAt (Elt F) arg12.view (Rect.unit (s := S8x256) ![0, 128] S8x128.size inb_S8x256_S8x128_0_128).toLoadRect f12))
      (k0_pay247 (words v59 (View.readAt (Elt F) arg3.view (Rect.unit (s := S32x12288) (k0_off4 v1 k) S24x256.size (k0_off4_inb v1 k0_hw1 k)).toLoadRect X_arg3)) (k0_pay8 v59 (View.readAt (Elt F) arg3.view (Rect.unit (s := S32x12288) (k0_off5 v1 k) S8x256.size (k0_off5_inb v1 k0_hw1 k)).toLoadRect X_arg3))) (View.readAt (Elt F) arg11.view (Rect.unit (s := S96x256) ![0, 0] S96x256.size inb_S96x256_S96x256_0_0).toLoadRect f11)⟩] := by
  unfold trip_k0_t1
  rfl

set_option maxHeartbeats 4000000 in
/-- The carries' stores. -/
theorem trip_carry : (trip_k0_t1 (F := F) 𝒱 c bd i arg1 harg1 arg2 harg2 arg3 harg3 arg4 harg4 arg5 harg5 arg6 harg6 arg7 harg7 arg8 harg8 arg9 harg9 arg10 harg10 arg11 harg11 arg12 harg12 v1 k0_hw1 v4 v7 v59 v60 v106 v122 c8_i32_36 v124 v127 c0_i32_38 X_arg3 X_arg4 k).2.2.1 acc f11 f12 = [⟨Rect.unit (s := S8x256) ![0, 128] S8x128.size inb_S8x256_S8x128_0_128,
    nextCarry (power v1 v4 v7 v59 (k0_pay508 v106 v122 c8_i32_36 v124 v127 c0_i32_38) (View.readAt (Elt F) arg3.view (Rect.unit (s := S32x12288) (k0_off5 v1 k) S8x256.size (k0_off5_inb v1 k0_hw1 k)).toLoadRect X_arg3) (View.readAt (Elt F) arg4.view (Rect.unit (s := S32x256) ![0, 0] S32x256.size inb_S32x256_S32x256_0_0).toLoadRect X_arg4) k) (k0_pay15 (k0_pay8 v59 (View.readAt (Elt F) arg3.view (Rect.unit (s := S32x12288) (k0_off5 v1 k) S8x256.size (k0_off5_inb v1 k0_hw1 k)).toLoadRect X_arg3))) v60 1 (View.readAt (Elt F) arg12.view (Rect.unit (s := S8x256) ![0, 128] S8x128.size inb_S8x256_S8x128_0_128).toLoadRect f12)⟩,
    ⟨Rect.unit (s := S8x256) ![0, 0] S8x128.size inb_S8x256_S8x128_0_0, nextCarry (power v1 v4 v7 v59 (k0_pay508 v106 v122 c8_i32_36 v124 v127 c0_i32_38) (View.readAt (Elt F) arg3.view (Rect.unit (s := S32x12288) (k0_off5 v1 k) S8x256.size (k0_off5_inb v1 k0_hw1 k)).toLoadRect X_arg3) (View.readAt (Elt F) arg4.view (Rect.unit (s := S32x256) ![0, 0] S32x256.size inb_S32x256_S32x256_0_0).toLoadRect X_arg4) k) (k0_pay15 (k0_pay8 v59 (View.readAt (Elt F) arg3.view (Rect.unit (s := S32x12288) (k0_off5 v1 k) S8x256.size (k0_off5_inb v1 k0_hw1 k)).toLoadRect X_arg3))) v60 0 (View.readAt (Elt F) arg12.view (Rect.unit (s := S8x256) ![0, 0] S8x128.size inb_S8x256_S8x128_0_0).toLoadRect f12)⟩] := by
  unfold trip_k0_t1
  rfl
end

end Cert.KernelIdeal.Chunk

end
-- ==== Proof.ChunkValue.lean ====
/-
  A trip's values over the extended reals: the lane order of a chunk, its parameters and words at a row, and the weights
  as opacity times the product of 1 - opacity over the slots before.
-/
module

public import proofs.«01_k».proof.Proof.Chunk
public import proofs.«01_k».proof.Proof.RunKernelIdeal
public import Idealize.ShloMosaic.Lib.Pointwise
public import Idealize.ShloMosaic.Lib.Pipeline.Value

@[expose] public section

set_option maxRecDepth 65536

noncomputable section

namespace Cert.KernelIdeal.Chunk

open Cert.KernelIdeal Cert.KernelIdeal.Gen
open Idealize.ShloMosaic Idealize.ShloMosaic.TcCoe Idealize.SL Idealize.SL.Sem
open Cert.KernelIdeal.Body.kernelRun

/-! ## The constant index vectors -/

theorem v59_apply : ∀ s : Fin 8, ∀ x : Fin 128, (sl.v59 : IVec S8x128 32) (ix2 s x) = BitVec.ofNat 32 ((x.val % 8) * 16 + x.val / 8) := by
  decide +kernel
theorem v60_apply : ∀ s : Fin 8, ∀ x : Fin 128, (sl.v60 : IVec S8x128 32) (ix2 s x) = BitVec.ofNat 32 s.val := by
  decide +kernel
/-- Row `r` of a chunk is the chunk's slot `32 (r % 8) + r / 8`. -/
theorem v147_apply : ∀ r : Fin 256, k0_pay508 sl.v106 sl.v122 8#32 (divsi sl.v122 sl.v64) sl.v127 0#32 (ix2 0 r) = BitVec.ofNat 32 (32 * (r.val % 8) + r.val / 8) := by
  decide +kernel

/-- The lane a gather reads, its index kept within the 128 lanes. -/
theorem lane_nat : ∀ s : Fin 8, ∀ x : Fin 128, (Scalar.select (IntOp.cmpi CmpIPredicate.slt ((sl.v59 : IVec S8x128 32) (ix2 s x)) 0#32)
    (IntOp.addi (sl.v59 (ix2 s x)) 128#32) (sl.v59 (ix2 s x))).toNat % 128 = (x.val % 8) * 16 + x.val / 8 := by
  decide +kernel

/-- The column of a chunk at which row `r` lies. -/
def col (r : Fin 256) : Fin 256 := ⟨128 * (r.val / 128) + 16 * (r.val % 8) + (r.val % 128) / 8, by omega⟩

theorem pars_apply (x : Vec Ideal S8x256 .i32) (i : Fin 8) (r : Fin 256) :
    k0_pay8 sl.v59 x (ix2 i r) = Ideal.ofBits .f32 (x (ix2 i (col r))) := by
  unfold k0_pay8
  pointwise
  by_cases h : r.val < 128
  · rw [dif_pos h]
    refine congrArg (fun c => Ideal.ofBits .f32 (x (ix2 i c))) (Fin.ext ?_)
    refine (lane_nat i ⟨r, h⟩).trans ?_
    simp only [col]
    omega
  · rw [dif_neg h]
    refine congrArg (fun c => Ideal.ofBits .f32 (x (ix2 i c))) (Fin.ext ?_)
    refine (congrArg (128 + ·) (lane_nat i ⟨r - 128, by omega⟩)).trans ?_
    simp only [col]
    omega

/-- The words at a row are the loaded words at the row's column. -/
theorem words_apply (x : Vec Ideal S24x256 .i32) (i : Fin 24) (r : Fin 256) :
    words sl.v59 x (ix2 i r) = x (ix2 i (col r)) := by
  have key : ∀ (t : Fin 8) (g : Fin 256 → BitVec 32) (q1 : ∀ h : r.val < 128, _ < 256) (q2 : ∀ h : ¬ r.val < 128, _ < 256),
      (if h : r.val < 128 then g ⟨(Scalar.select (IntOp.cmpi CmpIPredicate.slt ((sl.v59 : IVec S8x128 32) (ix2 t ⟨r, h⟩)) 0#32)
        (IntOp.addi (sl.v59 (ix2 t ⟨r, h⟩)) 128#32) (sl.v59 (ix2 t ⟨r, h⟩))).toNat % 128, q1 h⟩
      else g ⟨128 + (Scalar.select (IntOp.cmpi CmpIPredicate.slt ((sl.v59 : IVec S8x128 32) (ix2 t ⟨r - 128, by omega⟩)) 0#32)
        (IntOp.addi (sl.v59 (ix2 t ⟨r - 128, by omega⟩)) 128#32) (sl.v59 (ix2 t ⟨r - 128, by omega⟩))).toNat % 128, q2 h⟩) = g (col r) := by
    intro t g q1 q2
    by_cases h : r.val < 128
    · rw [dif_pos h]
      refine congrArg g (Fin.ext ?_)
      refine (lane_nat t ⟨r, h⟩).trans ?_
      simp only [col]
      omega
    · rw [dif_neg h]
      refine congrArg g (Fin.ext ?_)
      refine (congrArg (128 + ·) (lane_nat t ⟨r - 128, by omega⟩)).trans ?_
      simp only [col]
      omega
  unfold words k0_pay7 k0_pay2 k0_pay3 k0_pay4 k0_pay5 k0_pay6
  pointwise
  by_cases h0 : i.val < 8
  · rw [dif_pos h0]
    exact key ⟨i, h0⟩ (fun c => x (ix2 i c)) _ _
  · rw [dif_neg h0]
    by_cases h1 : i.val - 8 < 8
    · rw [dif_pos h1]
      refine (key ⟨i - 8, h1⟩ (fun c => x (ix2 ⟨8 + (i - 8), by omega⟩ c)) _ _).trans (congrArg (fun i => x (ix2 i (col r))) (Fin.ext ?_))
      show 8 + (i.val - 8) = i
      omega
    · rw [dif_neg h1]
      refine (key ⟨i - 8 - 8, by omega⟩ (fun c => x (ix2 ⟨16 + (i - 8 - 8), by omega⟩ c)) _ _).trans (congrArg (fun i => x (ix2 i (col r))) (Fin.ext ?_))
      show 16 + (i.val - 8 - 8) = i
      omega

theorem op_apply (y : FVec Ideal S8x256 .f32) (r : Fin 256) (l : Fin 128) : k0_pay15 y (ix2 r l) = y (ix2 5 r) := by
  unfold k0_pay15
  pointwise

theorem fw_apply (w : IVec S24x256 32) (y : FVec Ideal S8x256 .f32) (f : Fin 96) (r : Fin 256) :
    k0_pay247 w y (ix2 f r) = Ideal.ofBits .fp8e4m3 (bitcast S96x256 8 w bitcasts_S24x256_w32_S96x256_w8 (ix2 f r)) * y (ix2 6 r) := by
  unfold k0_pay247
  pointwise

theorem acc_apply (W : FVec Ideal S256x256 .bf16) (FW : FVec Ideal S96x256 .bf16) (A : Vec Ideal S96x256 .f32) (f : Fin 96) (p : Fin 256) :
    k0_pay509 W FW A (ix2 f p) = A (ix2 f p) + ∑ r : Fin 256, FW (ix2 f r) * W (ix2 r p) := by
  unfold k0_pay509
  pointwise

theorem al_apply (pw : FVec Ideal S256x256 .f32) (op : FVec Ideal S256x128 .f32) (h j : ℕ) (s : Fin 8) (l : Fin 128) :
    al pw op h j (ix2 s l) = min (Ideal.ofBits .f32 0x3F7D70A4#32) (op (ix2 ⟨8 * (j % 32) + s, by omega⟩ l) * Ideal.exp2 (pw (ix2 ⟨8 * (j % 32) + s, by omega⟩ ⟨128 * (h % 2) + l, by omega⟩))) := by
  unfold al
  show min _ (extractStridedSlice S8x128 ![8 * (j % 32), 0] op (sliceOp j) (ix2 s l) * Ideal.exp2 (extractStridedSlice S8x128 ![8 * (j % 32), 128 * (h % 2)] pw (slicePw h j) (ix2 s l))) = _
  have e1 : extractStridedSlice S8x128 ![8 * (j % 32), 0] op (sliceOp j) (ix2 s l) = op (ix2 ⟨8 * (j % 32) + s, by omega⟩ l) := by
    refine congrArg op (funext fun a => ?_)
    match a with
    | ⟨0, _⟩ => rfl
    | ⟨1, _⟩ => exact Fin.ext (Nat.zero_add _)
  have e2 : extractStridedSlice S8x128 ![8 * (j % 32), 128 * (h % 2)] pw (slicePw h j) (ix2 s l) = pw (ix2 ⟨8 * (j % 32) + s, by omega⟩ ⟨128 * (h % 2) + l, by omega⟩) := by
    refine congrArg pw (funext fun a => ?_)
    match a with
    | ⟨0, _⟩ => rfl
    | ⟨1, _⟩ => rfl
  rw [e1, e2]
  rfl

theorem next_apply (c : Vec Ideal S8x128 .f32) (y : FVec Ideal S8x128 .f32) (s : Fin 8) (l : Fin 128) :
    k0_pay129 c y (ix2 s l) = c (ix2 s l) * y (ix2 7 l) := by
  unfold k0_pay129
  pointwise

theorem one_apply (i : S8x128.Idx) : (one : FVec Ideal S8x128 .f32) i = 1 := Ideal.ofBits_one_f32

/-- The running product over a row's first slots. -/
theorem run_apply (pw : FVec Ideal S256x256 .f32) (op : FVec Ideal S256x128 .f32) (h : ℕ) (i : S8x128.Idx) :
    ∀ n, run pw op h n i = ∏ j ∈ Finset.range n, (1 - al pw op h j i)
  | 0 => by rw [Finset.prod_range_zero]; exact one_apply i
  | n + 1 => by
    rw [Finset.prod_range_succ, ← run_apply pw op h i n]
    show run pw op h n i * ((one : FVec Ideal S8x128 .f32) i - al pw op h n i) = _
    rw [one_apply]

/-- A prefix product by doubling. -/
theorem prefix_prod (S : ℕ → EReal) (s : Fin 8) :
    ((((if 1 ≤ s then S (s - 1).val else 1) * if 1 ≤ s then if 1 ≤ s - 1 then S (s - 1 - 1).val else 1 else 1) *
        if 2 ≤ s then
          (if 1 ≤ s - 2 then S (s - 2 - 1).val else 1) *
            if 1 ≤ s - 2 then if 1 ≤ s - 2 - 1 then S (s - 2 - 1 - 1).val else 1 else 1
        else 1) *
      if 4 ≤ s then
        ((if 1 ≤ s - 4 then S (s - 4 - 1).val else 1) *
            if 1 ≤ s - 4 then if 1 ≤ s - 4 - 1 then S (s - 4 - 1 - 1).val else 1 else 1) *
          if 2 ≤ s - 4 then
            (if 1 ≤ s - 4 - 2 then S (s - 4 - 2 - 1).val else 1) *
              if 1 ≤ s - 4 - 2 then if 1 ≤ s - 4 - 2 - 1 then S (s - 4 - 2 - 1 - 1).val else 1 else 1
          else 1
      else 1) = ∏ t ∈ Finset.range s.val, S t := by
  fin_cases s <;> simp [Finset.prod_range_succ] <;> ac_rfl

/-- Row `s` of the prefix is the product over the rows before. -/
theorem pre_apply (R : FVec Ideal S8x128 .f32) (s : Fin 8) (l : Fin 128) :
    pre sl.v60 R (ix2 s l) = ∏ t ∈ Finset.range s.val, R (ix2 (Fin.ofNat 8 t) l) := by
  have sh : ∀ (n : Fin 8) (X : FVec Ideal S8x128 .f32) (t : Fin 8), shift1 sl.v60 (BitVec.ofNat 32 n) X (ix2 t l)
      = if n ≤ t then X (ix2 (t - n) l) else 1 := by
    intro n X t
    have h1 : shift1 sl.v60 (BitVec.ofNat 32 n) X (ix2 t l)
        = Scalar.select (IntOp.cmpi CmpIPredicate.sge ((sl.v60 : IVec S8x128 32) (ix2 t l)) (BitVec.ofNat 32 n))
          (dynamicRotate 0 (BitVec.ofNat 32 n) none X rotates_S8x128_d0 (ix2 t l)) 1 := by
      unfold shift1
      rw [← one_apply (ix2 t l)]
      rfl
    have h2 : dynamicRotate 0 (BitVec.ofNat 32 n) none X rotates_S8x128_d0 (ix2 t l) = X (ix2 (t - n) l) := by
      have q : ∀ t n : Fin 8, (t.val + 8 - (BitVec.ofNat 32 n.val).toNat % 8) % 8 = (t - n).val := by decide
      refine congrArg X (funext fun a => ?_)
      match a with
      | ⟨0, _⟩ => exact Fin.ext (q t n)
      | ⟨1, _⟩ => rfl
    rw [h1, h2, v60_apply]
    clear h1 h2
    generalize X (ix2 (t - n) l) = v
    have : ∀ n t : Fin 8, IntOp.cmpi CmpIPredicate.sge (BitVec.ofNat 32 t.val) (BitVec.ofNat 32 n.val) = if n ≤ t then 1#1 else 0#1 := by decide +kernel
    rw [this]
    split <;> rfl
  have s1 : ∀ X t, shift1 sl.v60 1#32 X (ix2 t l) = if 1 ≤ t then X (ix2 (t - 1) l) else 1 := fun X t => sh 1 X t
  have s2 : ∀ X t, shift1 sl.v60 2#32 X (ix2 t l) = if 2 ≤ t then X (ix2 (t - 2) l) else 1 := fun X t => sh 2 X t
  have s4 : ∀ X t, shift1 sl.v60 4#32 X (ix2 t l) = if 4 ≤ t then X (ix2 (t - 4) l) else 1 := fun X t => sh 4 X t
  have m : ∀ (X Y : FVec Ideal S8x128 .f32) i, (mulf X Y : FVec Ideal S8x128 .f32) i = X i * Y i := fun _ _ _ => rfl
  unfold pre
  simp only [m, s1, s2, s4]
  clear s1 s2 s4 sh m
  obtain ⟨S, hS⟩ : ∃ S : ℕ → EReal, ∀ t : Fin 8, R (ix2 t l) = S t.val :=
    ⟨fun n => R (ix2 (Fin.ofNat 8 n) l), fun t => congrArg (fun t => R (ix2 t l)) (Fin.ext (Nat.mod_eq_of_lt t.isLt).symm)⟩
  simp only [hS]
  refine (prefix_prod S s).trans (Finset.prod_congr rfl fun t ht => congrArg S ?_)
  exact (Nat.mod_eq_of_lt ((Finset.mem_range.mp ht).trans s.isLt)).symm

/-- The half's weights at a row. -/
theorem half_apply (pw : FVec Ideal S256x256 .f32) (op : FVec Ideal S256x128 .f32) (h : ℕ) (c : Vec Ideal S8x128 .f32) (r : Fin 256) (l : Fin 128) :
    half pw op sl.v60 h c (ix2 r l) = al pw op h (r / 8) (ix2 ⟨r % 8, by omega⟩ l) * run pw op h (r / 8) (ix2 ⟨r % 8, by omega⟩ l)
      * (c (ix2 ⟨r % 8, by omega⟩ l) * pre sl.v60 (run pw op h 32) (ix2 ⟨r % 8, by omega⟩ l)) := by
  unfold half
  refine (concatenate_ofFn_apply (t := S256x128) (s₁ := S8x128) 0 (fun j : Fin 32 => mulf (ws pw op h j) (mulf c (pre sl.v60 (run pw op h 32)))) _ rfl 8 rfl (ix2 r l) ⟨r / 8, by omega⟩ rfl (ix2 ⟨r % 8, by omega⟩ l) rfl ?_).trans rfl
  intro b hb
  match b with
  | ⟨0, _⟩ => exact absurd rfl hb
  | ⟨1, _⟩ => rfl

/-- The weights' halves. -/
theorem wts_apply (pw : FVec Ideal S256x256 .f32) (op : FVec Ideal S256x128 .f32) (c0 c1 : Vec Ideal S8x128 .f32) (r p : Fin 256) :
    wts pw op sl.v60 c0 c1 (ix2 r p) = if h : p.val < 128 then half pw op sl.v60 0 c0 (ix2 r ⟨p, h⟩) else half pw op sl.v60 1 c1 (ix2 r ⟨p - 128, by omega⟩) := by
  unfold wts k0_pay246
  pointwise

end Cert.KernelIdeal.Chunk

end
-- ==== Proof.Combine.lean ====
module

public import proofs.«01_k».proof.Proof.ChunkValue

/-! # One chunk's weights, slot by slot

A chunk holds 256 slots. With `A i p` the opacity of the chunk's slot `i` at pixel `p`, the weight of slot `i` is
`A i p` times the carried transmittance times the product of `1 - A` over the chunk's earlier slots; and the carry that
leaves the chunk is the one that entered times the product over all 256. -/

@[expose] public section

noncomputable section

namespace Cert.KernelIdeal.Chunk

open Cert.KernelIdeal Cert.KernelIdeal.Gen
open Idealize.ShloMosaic Idealize.ShloMosaic.TcCoe Idealize.SL Idealize.SL.Sem
open Cert.KernelIdeal.Body.kernelRun

/-- The row that holds a chunk's slot `i`. -/
def rowOf (i : ℕ) : Fin 256 := ⟨(8 * (i % 32) + i / 32) % 256, Nat.mod_lt _ (by norm_num)⟩
/-- The slot a chunk's row holds. -/
def slotOf (r : Fin 256) : ℕ := 32 * (r.val % 8) + r.val / 8

theorem slotOf_lt (r : Fin 256) : slotOf r < 256 := by unfold slotOf; omega
theorem rowOf_val (i : ℕ) (h : i < 256) : (rowOf i).val = 8 * (i % 32) + i / 32 :=
  Nat.mod_eq_of_lt (by omega)
theorem rowOf_slotOf (r : Fin 256) : rowOf (slotOf r) = r :=
  Fin.ext (by rw [rowOf_val _ (slotOf_lt r)]; unfold slotOf; omega)
theorem slotOf_rowOf (i : ℕ) (h : i < 256) : slotOf (rowOf i) = i := by
  unfold slotOf
  rw [rowOf_val i h]
  omega

/-- A sum over a chunk's rows is the sum over its slots. -/
theorem sum_rows {M : Type} [AddCommMonoid M] (g : ℕ → M) : ∑ r : Fin 256, g (slotOf r) = ∑ i ∈ Finset.range 256, g i := by
  refine Finset.sum_bij (fun r _ => slotOf r) (fun r _ => Finset.mem_range.2 (slotOf_lt r)) ?_ ?_ (fun _ _ => rfl)
  · intro a _ b _ h
    rw [← rowOf_slotOf a, ← rowOf_slotOf b, h]
  · intro i hi
    exact ⟨rowOf i, Finset.mem_univ _, slotOf_rowOf i (Finset.mem_range.1 hi)⟩

/-- A product over `32 t` slots, row by row. -/
theorem prod_blocks (Q : ℕ → EReal) : ∀ t : ℕ, ∏ a ∈ Finset.range t, ∏ j ∈ Finset.range 32, Q (32 * a + j) = ∏ i ∈ Finset.range (32 * t), Q i
  | 0 => by simp
  | t + 1 => by
    rw [Finset.prod_range_succ, prod_blocks Q t, Nat.mul_succ, Finset.prod_range_add]

section
variable (pw : FVec Ideal S256x256 .f32) (op : FVec Ideal S256x128 .f32)

/-- The opacity of the chunk's slot `i` at pixel `p`. -/
def A (i : ℕ) (p : Fin 256) : EReal :=
  min (Ideal.ofBits .f32 0x3F7D70A4#32) (op (ix2 (rowOf i) ⟨p.val % 128, by omega⟩) * Ideal.exp2 (pw (ix2 (rowOf i) p)))

/-- The pixel of half `h` at lane `l`. -/
def pix (h : ℕ) (l : Fin 128) : Fin 256 := ⟨128 * (h % 2) + l.val, by omega⟩

theorem al_A (h j : ℕ) (hj : j < 32) (s : Fin 8) (l : Fin 128) : al pw op h j (ix2 s l) = A pw op (32 * s.val + j) (pix h l) := by
  rw [al_apply]
  unfold A
  have e1 : (⟨8 * (j % 32) + s.val, by omega⟩ : Fin 256) = rowOf (32 * s.val + j) :=
    Fin.ext (by rw [rowOf_val _ (by omega)]; simp only; omega)
  have e2 : (⟨(pix h l).val % 128, by omega⟩ : Fin 128) = l := Fin.ext (by unfold pix; simp only; omega)
  rw [e2]
  have e3 : (⟨128 * (h % 2) + l.val, by omega⟩ : Fin 256) = pix h l := rfl
  rw [← e1, ← e3]

theorem run_A (h n : ℕ) (hn : n ≤ 32) (s : Fin 8) (l : Fin 128) :
    run pw op h n (ix2 s l) = ∏ j ∈ Finset.range n, (1 - A pw op (32 * s.val + j) (pix h l)) := by
  rw [run_apply]
  refine Finset.prod_congr rfl fun j hj => ?_
  rw [al_A pw op h j (by have := Finset.mem_range.1 hj; omega) s l]

theorem pre_A (h : ℕ) (s : Fin 8) (l : Fin 128) :
    pre sl.v60 (run pw op h 32) (ix2 s l) = ∏ i ∈ Finset.range (32 * s.val), (1 - A pw op i (pix h l)) := by
  rw [pre_apply, ← prod_blocks (fun i => 1 - A pw op i (pix h l))]
  refine Finset.prod_congr rfl fun t ht => ?_
  rw [run_A pw op h 32 le_rfl]
  have : (Fin.ofNat 8 t).val = t := Nat.mod_eq_of_lt (by have := Finset.mem_range.1 ht; omega)
  rw [this]

/-- A half tile's weight. -/
theorem half_A (h : ℕ) (c : Vec Ideal S8x128 .f32) (r : Fin 256) (l : Fin 128) :
    half pw op sl.v60 h c (ix2 r l)
      = A pw op (slotOf r) (pix h l) * (c (ix2 ⟨r.val % 8, by omega⟩ l) * ∏ i ∈ Finset.range (slotOf r), (1 - A pw op i (pix h l))) := by
  rw [half_apply, al_A pw op h _ (by omega), run_A pw op h _ (by omega), pre_A]
  have : slotOf r = 32 * (r.val % 8) + r.val / 8 := rfl
  rw [this, Finset.prod_range_add (fun i => 1 - A pw op i (pix h l))]
  simp only
  ac_rfl

/-- A half tile's carry after the chunk. -/
theorem next_A (h : ℕ) (c : Vec Ideal S8x128 .f32) (s : Fin 8) (l : Fin 128) :
    nextCarry pw op sl.v60 h c (ix2 s l) = c (ix2 s l) * ∏ i ∈ Finset.range 256, (1 - A pw op i (pix h l)) := by
  unfold nextCarry
  rw [next_apply]
  congr 1
  show pre sl.v60 (run pw op h 32) (ix2 7 l) * run pw op h 32 (ix2 7 l) = _
  rw [pre_A, run_A pw op h 32 le_rfl, show (256 : ℕ) = 32 * (7 : Fin 8).val + 32 from rfl, Finset.prod_range_add (fun i => 1 - A pw op i (pix h l))]

/-- A tile's weight, where the carries hold the same transmittance in every row. -/
theorem wts_A (c0 c1 : Vec Ideal S8x128 .f32) (C : Fin 256 → EReal) (h0 : ∀ s l, c0 (ix2 s l) = C (pix 0 l)) (h1 : ∀ s l, c1 (ix2 s l) = C (pix 1 l))
    (r p : Fin 256) :
    wts pw op sl.v60 c0 c1 (ix2 r p) = A pw op (slotOf r) p * (C p * ∏ i ∈ Finset.range (slotOf r), (1 - A pw op i p)) := by
  rw [wts_apply]
  by_cases h : p.val < 128
  · rw [dif_pos h, half_A, h0]
    have : pix 0 ⟨p.val, h⟩ = p := Fin.ext (by simp [pix])
    rw [this]
  · rw [dif_neg h, half_A, h1]
    have : pix 1 ⟨p.val - 128, by omega⟩ = p := Fin.ext (by simp [pix]; omega)
    rw [this]

/-- What a chunk adds to the accumulator. -/
theorem acc_A (c0 c1 : Vec Ideal S8x128 .f32) (C : Fin 256 → EReal) (h0 : ∀ s l, c0 (ix2 s l) = C (pix 0 l)) (h1 : ∀ s l, c1 (ix2 s l) = C (pix 1 l))
    (FW : FVec Ideal S96x256 .bf16) (a : Vec Ideal S96x256 .f32) (f : Fin 96) (p : Fin 256) :
    k0_pay509 (wts pw op sl.v60 c0 c1) FW a (ix2 f p)
      = a (ix2 f p) + ∑ i ∈ Finset.range 256, FW (ix2 f (rowOf i)) * (A pw op i p * (C p * ∏ j ∈ Finset.range i, (1 - A pw op j p))) := by
  rw [acc_apply, ← sum_rows]
  congr 1
  refine Finset.sum_congr rfl fun r _ => ?_
  rw [wts_A pw op c0 c1 C h0 h1, rowOf_slotOf]

end

end Cert.KernelIdeal.Chunk

end
-- ==== Proof.Loop.lean ====
module

public import proofs.«01_k».proof.Proof.Combine
public import Idealize.ShloMosaic.Lib.WritesUnit
public import Idealize.ShloMosaic.Lib.VecWindow

/-! # The loop over a tile's chunks

After `n` chunks the accumulator holds the sum over the first `256 n` slots of feature times opacity times transmittance,
and every carry row the product of `1 - opacity` over those slots. -/

@[expose] public section

set_option maxRecDepth 65536

noncomputable section

namespace Cert.KernelIdeal.Chunk

open Cert.KernelIdeal Cert.KernelIdeal.Gen
open Idealize.ShloMosaic Idealize.ShloMosaic.TcCoe Idealize.SL Idealize.SL.Sem
open Cert.KernelIdeal.Body.kernelRun

/-- Chunk `k`'s eight parameter rows. -/
def Xpar (x3 : Vec Ideal S32x12288 .i32) (k : ℕ) : Vec Ideal S8x256 .i32 :=
  fun j => x3 (ix2 ⟨24 + (j 0).val, by have : (j 0).val < 8 := (j 0).isLt; omega⟩ ⟨(k * 256 + (j 1).val) % 12288, Nat.mod_lt _ (by norm_num)⟩)
/-- Chunk `k`'s 24 word rows. -/
def Xw (x3 : Vec Ideal S32x12288 .i32) (k : ℕ) : Vec Ideal S24x256 .i32 :=
  fun j => x3 (ix2 ⟨(j 0).val, by have : (j 0).val < 24 := (j 0).isLt; omega⟩ ⟨(k * 256 + (j 1).val) % 12288, Nat.mod_lt _ (by norm_num)⟩)

section
variable (v1 : BitVec 32) (v4 v7 : Ideal .f32) (x3 : Vec Ideal S32x12288 .i32) (x4 : Vec Ideal S32x256 .bf16)

/-- Chunk `k`'s exponents. -/
def PW (k : ℕ) : FVec Ideal S256x256 .f32 :=
  power v1 v4 v7 sl.v59 (k0_pay508 sl.v106 sl.v122 8#32 (divsi sl.v122 sl.v64) sl.v127 0#32) (Xpar x3 k) x4 k
/-- Chunk `k`'s opacity factors. -/
def OP (k : ℕ) : FVec Ideal S256x128 .f32 := k0_pay15 (k0_pay8 sl.v59 (Xpar x3 k))
/-- Chunk `k`'s features. -/
def FW (k : ℕ) : FVec Ideal S96x256 .bf16 := k0_pay247 (words sl.v59 (Xw x3 k)) (k0_pay8 sl.v59 (Xpar x3 k))
/-- The opacity of the tile's slot `i` at pixel `p`. -/
def Ag (i : ℕ) (p : Fin 256) : EReal := A (PW v1 v4 v7 x3 x4 (i / 256)) (OP x3 (i / 256)) (i % 256) p
/-- Feature `f` of the tile's slot `i`. -/
def Fg (f : Fin 96) (i : ℕ) : EReal := FW x3 (i / 256) (ix2 f (rowOf (i % 256)))
/-- The transmittance in front of the tile's slot `n`. -/
def Tg (n : ℕ) (p : Fin 256) : EReal := ∏ j ∈ Finset.range n, (1 - Ag v1 v4 v7 x3 x4 j p)
/-- The accumulated features of the first `n` slots. -/
def Sg (n : ℕ) (f : Fin 96) (p : Fin 256) : EReal :=
  ∑ i ∈ Finset.range n, Fg x3 f i * (Ag v1 v4 v7 x3 x4 i p * Tg v1 v4 v7 x3 x4 i p)

theorem Ag_at (k i : ℕ) (hi : i < 256) (p : Fin 256) :
    Ag v1 v4 v7 x3 x4 (256 * k + i) p = A (PW v1 v4 v7 x3 x4 k) (OP x3 k) i p := by
  unfold Ag
  rw [show (256 * k + i) / 256 = k by omega, show (256 * k + i) % 256 = i by omega]

theorem Fg_at (k i : ℕ) (hi : i < 256) (f : Fin 96) : Fg x3 f (256 * k + i) = FW x3 k (ix2 f (rowOf i)) := by
  unfold Fg
  rw [show (256 * k + i) / 256 = k by omega, show (256 * k + i) % 256 = i by omega]

theorem Tg_at (k i : ℕ) (hi : i ≤ 256) (p : Fin 256) :
    Tg v1 v4 v7 x3 x4 (256 * k + i) p
      = Tg v1 v4 v7 x3 x4 (256 * k) p * ∏ j ∈ Finset.range i, (1 - A (PW v1 v4 v7 x3 x4 k) (OP x3 k) j p) := by
  refine (Finset.prod_range_add (fun j => 1 - Ag v1 v4 v7 x3 x4 j p) (256 * k) i).trans (congrArg (_ * ·) ?_)
  refine Finset.prod_congr rfl fun j hj => congrArg (1 - ·) ?_
  rw [Ag_at _ _ _ _ _ _ _ (by have := Finset.mem_range.1 hj; omega)]

theorem Tg_next (k : ℕ) (p : Fin 256) :
    Tg v1 v4 v7 x3 x4 (256 * (k + 1)) p
      = Tg v1 v4 v7 x3 x4 (256 * k) p * ∏ j ∈ Finset.range 256, (1 - A (PW v1 v4 v7 x3 x4 k) (OP x3 k) j p) :=
  Tg_at v1 v4 v7 x3 x4 k 256 le_rfl p

/-- Taking the first `256 k` slots and then the next chunk's. -/
theorem sum_chunk (g : ℕ → EReal) (k : ℕ) :
    ∑ i ∈ Finset.range (256 * (k + 1)), g i = ∑ i ∈ Finset.range (256 * k), g i + ∑ i ∈ Finset.range 256, g (256 * k + i) := by
  rw [Nat.mul_succ, Finset.sum_range_add]

theorem Sg_next (k : ℕ) (f : Fin 96) (p : Fin 256) :
    Sg v1 v4 v7 x3 x4 (256 * (k + 1)) f p = Sg v1 v4 v7 x3 x4 (256 * k) f p
      + ∑ i ∈ Finset.range 256, FW x3 k (ix2 f (rowOf i)) * (A (PW v1 v4 v7 x3 x4 k) (OP x3 k) i p
          * (Tg v1 v4 v7 x3 x4 (256 * k) p * ∏ j ∈ Finset.range i, (1 - A (PW v1 v4 v7 x3 x4 k) (OP x3 k) j p))) := by
  refine (sum_chunk (fun i => Fg x3 f i * (Ag v1 v4 v7 x3 x4 i p * Tg v1 v4 v7 x3 x4 i p)) k).trans (congrArg (_ + ·) ?_)
  refine Finset.sum_congr rfl fun i hi => ?_
  have hi' := Finset.mem_range.1 hi
  rw [Ag_at _ _ _ _ _ _ _ hi', Fg_at _ _ _ hi', Tg_at _ _ _ _ _ _ _ hi'.le]
end

section
variable (𝒱 : Variants) (c : Dev nD) (bd : Option 𝒱.V) (i : grid0.Coords) (arg1 : Memref sig .tc .smem S7x2 .f32) (harg1 : arg1.IsWhole) (arg2 : Memref sig .tc .smem S7 .i32) (harg2 : arg2.IsWhole) (arg3 : Memref sig .tc .vmem S32x12288 .i32) (harg3 : arg3.IsWhole) (arg4 : Memref sig .tc .vmem S32x256 .bf16) (harg4 : arg4.IsWhole) (arg5 : Memref sig .tc .vmem S96x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1x256x512 .bf16) (harg8 : arg8.IsWhole) (arg9 : Memref sig .tc .vmem S1x96x256 .fp8e4m3) (harg9 : arg9.IsWhole) (arg10 : Memref sig .tc .vmem S1x1x256 .f32) (harg10 : arg10.IsWhole) (arg11 : Memref sig .tc .vmem S96x256 .f32) (harg11 : arg11.IsWhole) (arg12 : Memref sig .tc .vmem S8x256 .f32) (harg12 : arg12.IsWhole) (v1 : Elt Ideal .i32) (k0_hw1 : k0_chk1 v1) (v4 : Ideal .f32) (v7 : Ideal .f32) (X_arg3 : BufTy.Contents (Elt Ideal) arg3.view.ty) (X_arg4 : BufTy.Contents (Elt Ideal) arg4.view.ty) (init : BitVec 32)

theorem read_par (hv : v1.toInt ≤ 12288) (k : Fin (k0_t1_loop v1).trips) :
    View.readAt (Elt Ideal) arg3.view (Rect.unit (s := S32x12288) (k0_off5 v1 k) S8x256.size (k0_off5_inb v1 k0_hw1 k)).toLoadRect X_arg3
      = Xpar (arg3.view.read (Elt Ideal) X_arg3) k.val := by
  funext j
  rw [View.readAt_apply]
  unfold Xpar
  have hk := lt_of_lt_of_le k.isLt (Body.t1_trips_le v1 hv)
  refine congrArg _ (funext fun a => Fin.ext ?_)
  have h0 : (j 0).val < 8 := (j 0).isLt
  have h1 : (j 1).val < 256 := (j 1).isLt
  match a with
  | ⟨0, _⟩ =>
    show k0_off5 v1 k 0 + 1 * (j 0).val = 24 + (j 0).val
    have := congrFun (Body.off5_eq v1 hv k) 0
    rw [this, Nat.one_mul]; rfl
  | ⟨1, _⟩ =>
    show k0_off5 v1 k 1 + 1 * (j 1).val = (k.val * 256 + (j 1).val) % 12288
    have := congrFun (Body.off5_eq v1 hv k) 1
    rw [this, Nat.one_mul, Nat.mod_eq_of_lt (by omega)]; rfl

theorem read_words (hv : v1.toInt ≤ 12288) (k : Fin (k0_t1_loop v1).trips) :
    View.readAt (Elt Ideal) arg3.view (Rect.unit (s := S32x12288) (k0_off4 v1 k) S24x256.size (k0_off4_inb v1 k0_hw1 k)).toLoadRect X_arg3
      = Xw (arg3.view.read (Elt Ideal) X_arg3) k.val := by
  funext j
  rw [View.readAt_apply]
  unfold Xw
  have hk := lt_of_lt_of_le k.isLt (Body.t1_trips_le v1 hv)
  refine congrArg _ (funext fun a => Fin.ext ?_)
  have h0 : (j 0).val < 24 := (j 0).isLt
  have h1 : (j 1).val < 256 := (j 1).isLt
  match a with
  | ⟨0, _⟩ =>
    show k0_off4 v1 k 0 + 1 * (j 0).val = (j 0).val
    have := congrFun (Body.off4_eq v1 hv k) 0
    rw [this, Nat.one_mul]; exact Nat.zero_add _
  | ⟨1, _⟩ =>
    show k0_off4 v1 k 1 + 1 * (j 1).val = (k.val * 256 + (j 1).val) % 12288
    have := congrFun (Body.off4_eq v1 hv k) 1
    rw [this, Nat.one_mul, Nat.mod_eq_of_lt (by omega)]; rfl

/-- The trip's store to the accumulator, in the chunk's terms. -/
theorem trip_acc' (hv : v1.toInt ≤ 12288) (k : Fin (k0_t1_loop v1).trips) (acc : BitVec 32) (f11 : BufTy.Contents (Elt Ideal) arg11.view.ty) (f12 : BufTy.Contents (Elt Ideal) arg12.view.ty) :
    (trip_k0_t1 (F := Ideal) 𝒱 c bd i arg1 harg1 arg2 harg2 arg3 harg3 arg4 harg4 arg5 harg5 arg6 harg6 arg7 harg7 arg8 harg8 arg9 harg9 arg10 harg10 arg11 harg11 arg12 harg12 v1 k0_hw1 v4 v7 sl.v59 sl.v60 sl.v106 sl.v122 8#32 (divsi sl.v122 sl.v64) sl.v127 0#32 X_arg3 X_arg4 k).2.1 acc f11 f12
      = [⟨Rect.unit (s := S96x256) ![0, 0] S96x256.size inb_S96x256_S96x256_0_0,
          k0_pay509 (wts (PW v1 v4 v7 (arg3.view.read (Elt Ideal) X_arg3) (arg4.view.read (Elt Ideal) X_arg4) k.val) (OP (arg3.view.read (Elt Ideal) X_arg3) k.val) sl.v60
            (View.readAt (Elt Ideal) arg12.view (Rect.unit (s := S8x256) ![0, 0] S8x128.size inb_S8x256_S8x128_0_0).toLoadRect f12)
            (View.readAt (Elt Ideal) arg12.view (Rect.unit (s := S8x256) ![0, 128] S8x128.size inb_S8x256_S8x128_0_128).toLoadRect f12))
            (FW (arg3.view.read (Elt Ideal) X_arg3) k.val) (arg11.view.read (Elt Ideal) f11)⟩] := by
  rw [trip_acc, read_par arg3 v1 k0_hw1 X_arg3 hv, read_words arg3 v1 k0_hw1 X_arg3 hv, View.readAt_full, View.readAt_full]
  rfl

/-- The trip's stores to the carries, in the chunk's terms. -/
theorem trip_carry' (hv : v1.toInt ≤ 12288) (k : Fin (k0_t1_loop v1).trips) (acc : BitVec 32) (f11 : BufTy.Contents (Elt Ideal) arg11.view.ty) (f12 : BufTy.Contents (Elt Ideal) arg12.view.ty) :
    (trip_k0_t1 (F := Ideal) 𝒱 c bd i arg1 harg1 arg2 harg2 arg3 harg3 arg4 harg4 arg5 harg5 arg6 harg6 arg7 harg7 arg8 harg8 arg9 harg9 arg10 harg10 arg11 harg11 arg12 harg12 v1 k0_hw1 v4 v7 sl.v59 sl.v60 sl.v106 sl.v122 8#32 (divsi sl.v122 sl.v64) sl.v127 0#32 X_arg3 X_arg4 k).2.2.1 acc f11 f12
      = [⟨Rect.unit (s := S8x256) ![0, 128] S8x128.size inb_S8x256_S8x128_0_128,
          nextCarry (PW v1 v4 v7 (arg3.view.read (Elt Ideal) X_arg3) (arg4.view.read (Elt Ideal) X_arg4) k.val) (OP (arg3.view.read (Elt Ideal) X_arg3) k.val) sl.v60 1
            (View.readAt (Elt Ideal) arg12.view (Rect.unit (s := S8x256) ![0, 128] S8x128.size inb_S8x256_S8x128_0_128).toLoadRect f12)⟩,
        ⟨Rect.unit (s := S8x256) ![0, 0] S8x128.size inb_S8x256_S8x128_0_0,
          nextCarry (PW v1 v4 v7 (arg3.view.read (Elt Ideal) X_arg3) (arg4.view.read (Elt Ideal) X_arg4) k.val) (OP (arg3.view.read (Elt Ideal) X_arg3) k.val) sl.v60 0
            (View.readAt (Elt Ideal) arg12.view (Rect.unit (s := S8x256) ![0, 0] S8x128.size inb_S8x256_S8x128_0_0).toLoadRect f12)⟩] := by
  rw [trip_carry, read_par arg3 v1 k0_hw1 X_arg3 hv, View.readAt_full]
  rfl

/-- A load of one half of the carries. -/
theorem read_half (f12 : BufTy.Contents (Elt Ideal) arg12.view.ty) (C : Fin 256 → EReal) (h : ∀ s p, arg12.view.read (Elt Ideal) f12 (ix2 s p) = C p) :
    (∀ s l, View.readAt (Elt Ideal) arg12.view (Rect.unit (s := S8x256) ![0, 0] S8x128.size inb_S8x256_S8x128_0_0).toLoadRect f12 (ix2 s l) = C (pix 0 l))
    ∧ (∀ s l, View.readAt (Elt Ideal) arg12.view (Rect.unit (s := S8x256) ![0, 128] S8x128.size inb_S8x256_S8x128_0_128).toLoadRect f12 (ix2 s l) = C (pix 1 l)) := by
  constructor
  · intro s l
    rw [← h s (pix 0 l), View.readAt_apply]
    refine congrArg _ (funext fun a => Fin.ext ?_)
    match a with
    | ⟨0, _⟩ => show 0 + 1 * s.val = s.val; omega
    | ⟨1, _⟩ => show 0 + 1 * l.val = 128 * (0 % 2) + l.val; omega
  · intro s l
    rw [← h s (pix 1 l), View.readAt_apply]
    refine congrArg _ (funext fun a => Fin.ext ?_)
    match a with
    | ⟨0, _⟩ => show 0 + 1 * s.val = s.val; omega
    | ⟨1, _⟩ => show 128 + 1 * l.val = 128 * (1 % 2) + l.val; omega

/-- The carries after both halves' stores. -/
theorem carries_read (f12 : BufTy.Contents (Elt Ideal) arg12.view.ty) (L : List (View.Piece (Elt Ideal) S8x256 .f32)) (w1 w0 : FVec Ideal S8x128 .f32) (s : Fin 8) (p : Fin 256)
    (C : EReal) (h0 : ∀ l, pix 0 l = p → w0 (ix2 s l) = C) (h1 : ∀ l, pix 1 l = p → w1 (ix2 s l) = C) :
    arg12.view.read (Elt Ideal) (arg12.view.writes (Elt Ideal) f12 (⟨Rect.unit (s := S8x256) ![0, 128] S8x128.size inb_S8x256_S8x128_0_128, w1⟩
      :: ⟨Rect.unit (s := S8x256) ![0, 0] S8x128.size inb_S8x256_S8x128_0_0, w0⟩ :: L)) (ix2 s p) = C := by
  by_cases hp : p.val < 128
  · rw [View.read_writes_cons_unit_of_not_mem arg12.view f12 inb_S8x256_S8x128_0_128 w1 _ (ix2 s p) rfl 1 (Or.inl hp),
      View.read_writes_cons_unit_of_mem arg12.view f12 inb_S8x256_S8x128_0_0 w0 _ (ix2 s p) (ix2 s ⟨p.val, hp⟩) rfl (fun a => by
        match a with
        | ⟨0, _⟩ => show s.val = 0 + s.val; omega
        | ⟨1, _⟩ => show p.val = 0 + p.val; omega)]
    exact h0 _ (Fin.ext (by simp [pix]))
  · rw [View.read_writes_cons_unit_of_mem arg12.view f12 inb_S8x256_S8x128_0_128 w1 _ (ix2 s p) (ix2 s ⟨p.val - 128, by omega⟩) rfl (fun a => by
        match a with
        | ⟨0, _⟩ => show s.val = 0 + s.val; omega
        | ⟨1, _⟩ => show p.val = 128 + (p.val - 128); omega)]
    exact h1 _ (Fin.ext (by simp [pix]; omega))

variable (G11 : BufTy.Contents (Elt Ideal) arg11.view.ty) (G12 : BufTy.Contents (Elt Ideal) arg12.view.ty)

/-- What the loop leaves after `n` trips. -/
theorem loop_val (hv : v1.toInt ≤ 12288) (hG11 : ∀ f p, arg11.view.read (Elt Ideal) G11 (ix2 f p) = 0) (hG12 : ∀ s p, arg12.view.read (Elt Ideal) G12 (ix2 s p) = 1) :
    ∀ n, n ≤ (k0_t1_loop v1).trips →
      (∀ f p, arg11.view.read (Elt Ideal) (arg11.view.writes (Elt Ideal) G11 (st_k0_t1 (F := Ideal) 𝒱 c bd i arg1 harg1 arg2 harg2 arg3 harg3 arg4 harg4 arg5 harg5 arg6 harg6 arg7 harg7 arg8 harg8 arg9 harg9 arg10 harg10 arg11 harg11 arg12 harg12 v1 k0_hw1 v4 v7 sl.v59 sl.v60 sl.v106 sl.v122 8#32 (divsi sl.v122 sl.v64) sl.v127 0#32 X_arg3 X_arg4 G11 G12 init n).2.1) (ix2 f p)
        = Sg v1 v4 v7 (arg3.view.read (Elt Ideal) X_arg3) (arg4.view.read (Elt Ideal) X_arg4) (256 * n) f p)
      ∧ (∀ s p, arg12.view.read (Elt Ideal) (arg12.view.writes (Elt Ideal) G12 (st_k0_t1 (F := Ideal) 𝒱 c bd i arg1 harg1 arg2 harg2 arg3 harg3 arg4 harg4 arg5 harg5 arg6 harg6 arg7 harg7 arg8 harg8 arg9 harg9 arg10 harg10 arg11 harg11 arg12 harg12 v1 k0_hw1 v4 v7 sl.v59 sl.v60 sl.v106 sl.v122 8#32 (divsi sl.v122 sl.v64) sl.v127 0#32 X_arg3 X_arg4 G11 G12 init n).2.2) (ix2 s p)
        = Tg v1 v4 v7 (arg3.view.read (Elt Ideal) X_arg3) (arg4.view.read (Elt Ideal) X_arg4) (256 * n) p) := by
  intro n
  induction n with
  | zero =>
    intro _
    rw [st_k0_t1.eq_1]
    refine ⟨fun f p => ?_, fun s p => ?_⟩
    · exact (hG11 f p).trans (by unfold Sg; simp)
    · exact (hG12 s p).trans (by unfold Tg; simp)
  | succ n ih =>
    intro hn
    obtain ⟨ih1, ih2⟩ := ih (by omega)
    rw [st_k0_t1_succ (F := Ideal) 𝒱 c bd i arg1 harg1 arg2 harg2 arg3 harg3 arg4 harg4 arg5 harg5 arg6 harg6 arg7 harg7 arg8 harg8 arg9 harg9 arg10 harg10 arg11 harg11 arg12 harg12 v1 k0_hw1 v4 v7 sl.v59 sl.v60 sl.v106 sl.v122 8#32 (divsi sl.v122 sl.v64) sl.v127 0#32 X_arg3 X_arg4 G11 G12 init ⟨n, hn⟩]
    simp only
    generalize hS : st_k0_t1 (F := Ideal) 𝒱 c bd i arg1 harg1 arg2 harg2 arg3 harg3 arg4 harg4 arg5 harg5 arg6 harg6 arg7 harg7 arg8 harg8 arg9 harg9 arg10 harg10 arg11 harg11 arg12 harg12 v1 k0_hw1 v4 v7 sl.v59 sl.v60 sl.v106 sl.v122 8#32 (divsi sl.v122 sl.v64) sl.v127 0#32 X_arg3 X_arg4 G11 G12 init n = S at ih1 ih2 ⊢
    obtain ⟨r0, r1⟩ := read_half arg12 _ _ ih2
    rw [trip_acc' 𝒱 c bd i arg1 harg1 arg2 harg2 arg3 harg3 arg4 harg4 arg5 harg5 arg6 harg6 arg7 harg7 arg8 harg8 arg9 harg9 arg10 harg10 arg11 harg11 arg12 harg12 v1 k0_hw1 v4 v7 X_arg3 X_arg4 hv, trip_carry' 𝒱 c bd i arg1 harg1 arg2 harg2 arg3 harg3 arg4 harg4 arg5 harg5 arg6 harg6 arg7 harg7 arg8 harg8 arg9 harg9 arg10 harg10 arg11 harg11 arg12 harg12 v1 k0_hw1 v4 v7 X_arg3 X_arg4 hv]
    refine ⟨fun f p => ?_, fun s p => ?_⟩
    · rw [List.singleton_append, View.read_writes_full, acc_A _ _ _ _ _ r0 r1, ih1, Sg_next]
    · rw [List.cons_append, List.singleton_append]
      refine carries_read arg12 G12 S.2.2 _ _ s p _ (fun l hl => ?_) (fun l hl => ?_)
      · rw [next_A, r0, hl, Tg_next]
      · rw [next_A, r1, hl, Tg_next]

end

end Cert.KernelIdeal.Chunk

end
-- ==== Proof.Exponent.lean ====
/-
  The exponent of a slot at a pixel: the six coefficients against the pixel's monomials.
-/
module

public import proofs.«01_k».proof.Proof.ChunkValue

@[expose] public section

set_option maxRecDepth 65536

noncomputable section

namespace Cert.KernelIdeal.Chunk

open Cert.KernelIdeal Cert.KernelIdeal.Gen
open Idealize.ShloMosaic Idealize.ShloMosaic.TcCoe Idealize.SL Idealize.SL.Sem
open Cert.KernelIdeal.Body.kernelRun

/-- A slot's six coefficients of the exponent (base 2) as a polynomial of the pixel's offset from the tile's centre. -/
def cf (L D x0 y0 : EReal) (live : BitVec 1) (g : Fin 8 → EReal) : ℕ → EReal
  | 0 => Ideal.ofBits .f32 0xBF000000#32 * (g 2 * L)
  | 1 => Ideal.ofBits .f32 0xBF000000#32 * (g 4 * L)
  | 2 => 0 - g 3 * L
  | 3 => g 2 * L * (g 0 - x0) + g 3 * L * (g 1 - y0)
  | 4 => g 4 * L * (g 1 - y0) + g 3 * L * (g 0 - x0)
  | _ => Scalar.select live (Ideal.ofBits .f32 0xBF000000#32 * ((g 2 * L * (g 0 - x0) + g 3 * L * (g 1 - y0)) * (g 0 - x0)
      + (g 4 * L * (g 1 - y0) + g 3 * L * (g 0 - x0)) * (g 1 - y0))) D

/-- The same in three parts: rounded, the rest rounded, and the rest of that. -/
def cf3 (c : ℕ → EReal) (k : ℕ) : EReal :=
  if k < 6 then c k else if k < 12 then c (k - 6) - c (k - 6) else if k < 18 then c (k - 12) - c (k - 12) - (c (k - 12) - c (k - 12)) else 0

set_option maxHeartbeats 1000000 in
theorem pw_apply (v1 : BitVec 32) (v4 v7 : EReal) (v147 : IVec S1x256 32) (x : Vec Ideal S8x256 .i32) (mono : Vec Ideal S32x256 .bf16) (k : ℕ) (r p : Fin 256) :
    power (F := Ideal) v1 v4 v7 sl.v59 v147 x mono k (ix2 r p) = ∑ n : Fin 32, cf3 (cf (Named.named (F := Ideal) κ "log2e" 0x3FB8AA3B#32 : Ideal .f32) (Named.named (F := Ideal) κ "dead" 0xF149F2CA#32 : Ideal .f32) v4 v7 (IntOp.cmpi CmpIPredicate.slt
                                (IntOp.addi (v147 (ix2 0 r))
                                  (Scalar.muli (Scf.iv (0#32) (1#32) k) 256#32))
                                v1) (fun i => k0_pay8 sl.v59 x (ix2 i r))) n * mono (ix2 n p) := by
  unfold power k0_pay14 k0_pay9 k0_pay10 k0_pay11 k0_pay12 k0_pay13
  generalize k0_pay8 sl.v59 x = X
  pointwise
  refine Finset.sum_congr rfl fun n _ => congrArg (· * mono (ix2 n p)) ?_
  fin_vals n with hk
  all_goals simp only [hk, Nat.reduceSub, Nat.reduceLT, ↓reduceDIte, cf3, cf, Nat.reduceAdd, ↓reduceIte, Nat.add_zero]
  all_goals rfl

/-- What a normal word denotes. -/
theorem f32_val (b : BitVec 32) (neg : Bool) (ex fr : ℕ) (h1 : (b.extractLsb' 31 1 == 1#1) = neg) (h2 : (b.extractLsb' 23 8).toNat = ex)
    (h3 : (b.extractLsb' 0 23).toNat = fr) (hx : ex ≠ 255) (h0 : ex ≠ 0) :
    Ideal.ofBits .f32 b = (((if neg then -1 else 1) * (2 ^ 23 + fr : ℕ) * (2 : ℝ) ^ ((ex : ℤ) - 127 - 23) : ℝ) : EReal) := by
  subst h1 h2 h3
  show Ideal.ieee 8 23 b = _
  unfold Ideal.ieee
  dsimp only
  rw [if_neg (by exact hx), if_neg h0]
  norm_num

/-- Half, negated. -/
theorem mhalf : Ideal.ofBits .f32 0xBF000000#32 = ((-1 / 2 : ℝ) : EReal) := by
  rw [f32_val 0xBF000000#32 true 126 0 (by decide) (by decide) (by decide) (by decide) (by decide)]
  congr 1
  norm_num

/-- The parts past the first vanish when the coefficients are real. -/
theorem sum_cf3_coe (c : ℕ → EReal) (r : ℕ → ℝ) (hc : ∀ k, c k = r k) (m : ℕ → EReal) :
    ∑ n : Fin 32, cf3 c n * m n = ∑ n ∈ Finset.range 6, (r n : EReal) * m n := by
  rw [Fin.sum_univ_eq_sum_range (fun n => cf3 c n * m n) 32]
  rw [← Finset.sum_subset (Finset.range_mono (by decide : 6 ≤ 32))]
  · refine Finset.sum_congr rfl fun n hn => ?_
    rw [cf3, if_pos (Finset.mem_range.mp hn), hc]
  · intro n _ hn
    have h6 : ¬ n < 6 := fun h => hn (Finset.mem_range.mpr h)
    have hz : ∀ x : ℝ, (x : EReal) - x = 0 := fun x => by rw [← EReal.coe_sub, sub_self]; rfl
    have : cf3 c n = 0 := by
      rw [cf3, if_neg h6]
      simp only [hc, hz]
      simp
    rw [this, zero_mul]

/-- A dead slot's exponent is the bottom. -/
theorem sum_cf3_bot (c : ℕ → EReal) (hc : c 5 = ⊥) (m : ℕ → EReal) (hm : m 5 = 1) : ∑ n : Fin 32, cf3 c n * m n = ⊥ := by
  rw [Fin.sum_univ_eq_sum_range (fun n => cf3 c n * m n) 32, ← Finset.add_sum_erase _ _ (Finset.mem_range.mpr (by decide : 5 < 32))]
  have : cf3 c 5 * m 5 = ⊥ := by
    rw [hm, mul_one, cf3, if_pos (by decide), hc]
  rw [this, EReal.bot_add]

/-- A live slot's exponent is the Gaussian's, over log 2. -/
theorem sum_cf3_live (D : EReal) (u v a b c x0 y0 X Y : ℝ) (g : Fin 8 → EReal) (h0 : g 0 = u) (h1 : g 1 = v) (h2 : g 2 = a) (h3 : g 3 = b) (h4 : g 4 = c)
    (m : ℕ → EReal) (m0 : m 0 = (X * X : ℝ)) (m1 : m 1 = (Y * Y : ℝ)) (m2 : m 2 = (X * Y : ℝ)) (m3 : m 3 = (X : ℝ)) (m4 : m 4 = (Y : ℝ)) (m5 : m 5 = (1 : ℝ)) :
    ∑ n : Fin 32, cf3 (cf ((Real.log 2)⁻¹ : ℝ) D x0 y0 1#1 g) n * m n
      = (((Real.log 2)⁻¹ * (-1 / 2 * (a * (X - (u - x0)) * (X - (u - x0)) + c * (Y - (v - y0)) * (Y - (v - y0))) - b * (X - (u - x0)) * (Y - (v - y0))) : ℝ) : EReal) := by
  generalize (Real.log 2)⁻¹ = L
  rw [sum_cf3_coe _ (fun k => match k with
    | 0 => -1 / 2 * (a * L)
    | 1 => -1 / 2 * (c * L)
    | 2 => 0 - b * L
    | 3 => a * L * (u - x0) + b * L * (v - y0)
    | 4 => c * L * (v - y0) + b * L * (u - x0)
    | _ => -1 / 2 * ((a * L * (u - x0) + b * L * (v - y0)) * (u - x0) + (c * L * (v - y0) + b * L * (u - x0)) * (v - y0)))]
  · simp only [Finset.sum_range_succ, Finset.sum_range_zero, m0, m1, m2, m3, m4, m5, zero_add]
    simp only [← EReal.coe_mul, ← EReal.coe_add, ← EReal.coe_sub]
    congr 1
    ring
  · intro k
    match k with
    | 0 => simp only [cf, h2, mhalf, ← EReal.coe_mul]
    | 1 => simp only [cf, h4, mhalf, ← EReal.coe_mul]
    | 2 => simp only [cf, h3, ← EReal.coe_zero, ← EReal.coe_mul, ← EReal.coe_add, ← EReal.coe_sub]
    | 3 => simp only [cf, h0, h1, h2, h3, ← EReal.coe_mul, ← EReal.coe_add, ← EReal.coe_sub]
    | 4 => simp only [cf, h0, h1, h3, h4, ← EReal.coe_mul, ← EReal.coe_add, ← EReal.coe_sub]
    | (n + 5) =>
      simp only [cf, h0, h1, h2, h3, h4, mhalf, ← EReal.coe_mul, ← EReal.coe_add, ← EReal.coe_sub]
      rfl

/-- Two to the power x / log 2. -/
theorem exp2_log2 (x : ℝ) : Ideal.exp2 (((Real.log 2)⁻¹ * x : ℝ) : EReal) = (Real.exp x : ℝ) := by
  rw [Ideal.exp2_coe]
  refine congrArg _ ?_
  show (2 : ℝ) ^ ((Real.log 2)⁻¹ * x) = _
  rw [Real.rpow_def_of_pos (by norm_num), ← mul_assoc, mul_inv_cancel₀ (Real.log_pos (by norm_num)).ne', one_mul]

end Cert.KernelIdeal.Chunk

end
-- ==== Proof.Mono.lean ====
module

public import proofs.«01_k».proof.Proof.Exponent

/-! # The table of monomials

The kernel's fourth input is a constant table: at pixel `p` its first six rows are x², y², x y, x, y and 1, where
x = p mod 16 - 7.5 and y = p / 16 - 7.5. -/

@[expose] public section

set_option maxRecDepth 65536

noncomputable section

namespace Cert.KernelIdeal.Chunk

open Cert.KernelIdeal Cert.KernelIdeal.Gen
open Idealize.ShloMosaic Idealize.ShloMosaic.TcCoe Idealize.SL Idealize.SL.Sem

/-- A normal `bf16` word stands for `z / 4`. -/
def Quarter (b : BitVec 16) (z : ℤ) : Prop :=
  (b.extractLsb' 7 8).toNat < 255 ∧ 100 ≤ (b.extractLsb' 7 8).toNat ∧
    (if (b.extractLsb' 15 1 == 1#1) = true then -1 else 1) * ((2 ^ 7 + (b.extractLsb' 0 7).toNat : ℕ) : ℤ) * 2 ^ ((b.extractLsb' 7 8).toNat - 100) = z * 2 ^ 32

instance (b : BitVec 16) (z : ℤ) : Decidable (Quarter b z) := by unfold Quarter; infer_instance

theorem quarter_val (b : BitVec 16) (z : ℤ) (h : Quarter b z) : Ideal.ofBits .bf16 b = ((z / 4 : ℝ) : EReal) := by
  obtain ⟨h1, h2, h3⟩ := h
  show Ideal.ieee 8 7 b = _
  unfold Ideal.ieee
  dsimp only
  rw [if_neg (by show (b.extractLsb' 7 8).toNat ≠ 255; omega), if_neg (by omega)]
  congr 1
  generalize he : (b.extractLsb' 7 8).toNat = e at *
  generalize hf : (b.extractLsb' 0 7).toNat = fr at *
  have h4 := congrArg (fun n : ℤ => (n : ℝ)) h3
  push_cast at h4
  obtain ⟨d, rfl⟩ := Nat.exists_eq_add_of_le h2
  rw [Nat.add_sub_cancel_left] at h4
  have e1 : (2 : ℝ) ^ (((100 + d : ℕ) : ℤ) - (2 ^ (8 - 1) - 1) - ((7 : ℕ) : ℤ)) = 2 ^ d / 2 ^ 34 := by
    rw [eq_div_iff (by norm_num), ← zpow_natCast, ← zpow_natCast, ← zpow_add₀ (by norm_num)]
    congr 1
    push_cast
    ring
  rw [e1]
  have h5 : (z : ℝ) / 4 = z * 4294967296 / 2 ^ 34 := by rw [eq_div_iff (by norm_num)]; ring
  rw [h5, ← h4]
  push_cast
  ring

/-- The table. -/
def mono : Vec Ideal S32x256 .bf16 := fun i => FloatOps.ofBits (F := Ideal) .bf16 (lit0 (S32x256.rowMajor i))

def xz (p : Fin 256) : ℤ := 2 * (p.val % 16 : ℕ) - 15
def yz (p : Fin 256) : ℤ := 2 * (p.val / 16 : ℕ) - 15

theorem tab0 : ∀ p : Fin 256, Quarter (lit0 (S32x256.rowMajor (ix2 0 p))) (xz p * xz p) := by decide +kernel
theorem tab1 : ∀ p : Fin 256, Quarter (lit0 (S32x256.rowMajor (ix2 1 p))) (yz p * yz p) := by decide +kernel
theorem tab2 : ∀ p : Fin 256, Quarter (lit0 (S32x256.rowMajor (ix2 2 p))) (xz p * yz p) := by decide +kernel
theorem tab3 : ∀ p : Fin 256, Quarter (lit0 (S32x256.rowMajor (ix2 3 p))) (2 * xz p) := by decide +kernel
theorem tab4 : ∀ p : Fin 256, Quarter (lit0 (S32x256.rowMajor (ix2 4 p))) (2 * yz p) := by decide +kernel
theorem tab5 : ∀ p : Fin 256, Quarter (lit0 (S32x256.rowMajor (ix2 5 p))) 4 := by decide +kernel

/-- A pixel's offset from the tile's middle. -/
def xm (p : Fin 256) : ℝ := ((p.val % 16 : ℕ) : ℝ) + 1 / 2 - 8
def ym (p : Fin 256) : ℝ := ((p.val / 16 : ℕ) : ℝ) + 1 / 2 - 8

theorem xz_xm (p : Fin 256) : (xz p : ℝ) = 2 * xm p := by unfold xz xm; simp only [Int.cast_sub, Int.cast_mul, Int.cast_natCast, Int.cast_ofNat]; ring
theorem yz_ym (p : Fin 256) : (yz p : ℝ) = 2 * ym p := by unfold yz ym; simp only [Int.cast_sub, Int.cast_mul, Int.cast_natCast, Int.cast_ofNat]; ring

theorem mono0 (p : Fin 256) : mono (ix2 0 p) = ((xm p * xm p : ℝ) : EReal) := by
  show Ideal.ofBits .bf16 (lit0 (S32x256.rowMajor (ix2 0 p))) = _
  rw [quarter_val _ _ (tab0 p)]; congr 1; push_cast; rw [xz_xm]; ring
theorem mono1 (p : Fin 256) : mono (ix2 1 p) = ((ym p * ym p : ℝ) : EReal) := by
  show Ideal.ofBits .bf16 (lit0 (S32x256.rowMajor (ix2 1 p))) = _
  rw [quarter_val _ _ (tab1 p)]; congr 1; push_cast; rw [yz_ym]; ring
theorem mono2 (p : Fin 256) : mono (ix2 2 p) = ((xm p * ym p : ℝ) : EReal) := by
  show Ideal.ofBits .bf16 (lit0 (S32x256.rowMajor (ix2 2 p))) = _
  rw [quarter_val _ _ (tab2 p)]; congr 1; push_cast; rw [xz_xm, yz_ym]; ring
theorem mono3 (p : Fin 256) : mono (ix2 3 p) = ((xm p : ℝ) : EReal) := by
  show Ideal.ofBits .bf16 (lit0 (S32x256.rowMajor (ix2 3 p))) = _
  rw [quarter_val _ _ (tab3 p)]; congr 1; push_cast; rw [xz_xm]; ring
theorem mono4 (p : Fin 256) : mono (ix2 4 p) = ((ym p : ℝ) : EReal) := by
  show Ideal.ofBits .bf16 (lit0 (S32x256.rowMajor (ix2 4 p))) = _
  rw [quarter_val _ _ (tab4 p)]; congr 1; push_cast; rw [yz_ym]; ring
theorem mono5 (p : Fin 256) : mono (ix2 5 p) = ((1 : ℝ) : EReal) := by
  show Ideal.ofBits .bf16 (lit0 (S32x256.rowMajor (ix2 5 p))) = _
  rw [quarter_val _ _ (tab5 p)]; congr 1; norm_num

end Cert.KernelIdeal.Chunk

end
-- ==== Proof.TileValue.lean ====
module

public import proofs.«01_k».proof.Proof.Loop
public import proofs.«01_k».proof.Proof.Mono
public import proofs.«01_k».proof.Proof.Blend
public import Idealize.ShloMosaic.Lib.BitcastPair

/-! # A tile's opacities and features, slot by slot

The loop's `Ag`, `Tg`, `Sg` are the blend's opacity, transmittance and running sum of the tile's words. -/

@[expose] public section

set_option maxRecDepth 65536

noncomputable section

namespace Cert.KernelIdeal.Chunk

open Cert.KernelIdeal Cert.KernelIdeal.Gen
open Idealize.ShloMosaic Idealize.ShloMosaic.TcCoe Idealize.SL Idealize.SL.Sem
open Cert.KernelIdeal.Body.kernelRun
open Cert.Blend

/-- The column of a tile's block that holds slot `i`. -/
def colOf (i : ℕ) : ℕ := i / 256 * 256 + i / 16 % 2 * 128 + i / 32 % 8 * 16 + i % 16

/-- The tile's words, by slot. -/
def wslot (x3 : Vec Ideal S32x12288 .i32) (t i : ℕ) : BitVec 32 :=
  x3 (ix2 ⟨t % 32, Nat.mod_lt _ (by norm_num)⟩ ⟨colOf i % 12288, Nat.mod_lt _ (by norm_num)⟩)

theorem col_rowOf (i : ℕ) : i / 256 * 256 + (col (rowOf (i % 256))).val = colOf i := by
  unfold col colOf
  have := rowOf_val (i % 256) (Nat.mod_lt _ (by norm_num))
  simp only [this]
  have hlt : i % 256 < 256 := Nat.mod_lt _ (by norm_num)
  have e0 : i % 256 / 32 = i / 32 % 8 := Nat.mod_mul_right_div_self i 32 8
  have e1 : i % 256 % 32 = 16 * (i / 16 % 2) + i % 16 := by
    clear this e0 hlt
    omega
  have a1 : i / 32 % 8 < 8 := Nat.mod_lt _ (by norm_num)
  have a2 : i / 16 % 2 < 2 := Nat.mod_lt _ (by norm_num)
  have a3 : i % 16 < 16 := Nat.mod_lt _ (by norm_num)
  rw [e0, e1]
  generalize i / 32 % 8 = s at *
  generalize i / 16 % 2 = q at *
  generalize i % 16 = l at *
  generalize i / 256 = c
  clear this e0 e1 hlt
  omega

section
variable (x3 : Vec Ideal S32x12288 .i32)

theorem par_slot (i : ℕ) (t : Fin 8) :
    k0_pay8 sl.v59 (Xpar x3 (i / 256)) (ix2 t (rowOf (i % 256))) = Ideal.ofBits .f32 (wslot x3 (24 + t.val) i) := by
  rw [pars_apply]
  congr 1
  show x3 (ix2 ⟨24 + t.val, _⟩ ⟨(i / 256 * 256 + (col (rowOf (i % 256))).val) % 12288, _⟩) = _
  unfold wslot
  congr 1
  refine congrArg₂ ix2 (Fin.ext ?_) (Fin.ext ?_)
  · show 24 + t.val = (24 + t.val) % 32; omega
  · show _ % 12288 = _ % 12288
    rw [col_rowOf]

theorem word_slot (i : ℕ) (t : Fin 24) : words sl.v59 (Xw x3 (i / 256)) (ix2 t (rowOf (i % 256))) = wslot x3 t.val i := by
  rw [words_apply]
  show x3 (ix2 ⟨t.val, _⟩ ⟨(i / 256 * 256 + (col (rowOf (i % 256))).val) % 12288, _⟩) = _
  unfold wslot
  congr 1
  refine congrArg₂ ix2 (Fin.ext ?_) (Fin.ext ?_)
  · show t.val = t.val % 32; omega
  · show _ % 12288 = _ % 12288
    rw [col_rowOf]

/-- Four bytes to a word, the lowest in the first row. -/
theorem bytes_apply (x : IVec S24x256 32) (f : Fin 96) (r : Fin 256) :
    bitcast S96x256 8 x bitcasts_S24x256_w32_S96x256_w8 (ix2 f r) = byteOf (x (ix2 ⟨f.val / 4, by omega⟩ r)) (f.val % 4) := by
  apply BitVec.eq_of_getLsbD_eq
  intro q hq
  rw [bitcast_getLsbD x _ _ q hq (by norm_num)]
  unfold byteOf
  rw [BitVec.getLsbD_extractLsb']
  have hrow : Shape.row S96x256 (ix2 f r) = f.val := rfl
  have e1 : (Shape.row S96x256 (ix2 f r) * 8 + q) / 32 = f.val / 4 := by rw [hrow]; omega
  have e2 : (Shape.row S96x256 (ix2 f r) * 8 + q) % 32 = 8 * (f.val % 4) + q := by rw [hrow]; omega
  rw [e2]
  simp only [hq, decide_true, Bool.true_and]
  congr 1
  refine congrArg x (funext fun a => Fin.ext ?_)
  match a with
  | ⟨0, _⟩ => exact (Shape.Bitcasts.srcIdx_row _ _ _ _ _ rfl).trans e1
  | ⟨1, _⟩ => exact Shape.Bitcasts.srcIdx_other _ _ _ _ _ (by show ¬ 1 + 2 = 2; decide)

theorem Fg_slot (f : Fin 96) (i : ℕ) :
    Fg x3 f i = Ideal.ofBits .fp8e4m3 (byteOf (wslot x3 (f.val / 4) i) (f.val % 4)) * Ideal.ofBits .f32 (wslot x3 30 i) := by
  unfold Fg FW
  rw [fw_apply, par_slot, bytes_apply, word_slot x3 i ⟨f.val / 4, by omega⟩]
  rfl

/-- The slot a lane of a chunk tests against the length. -/
theorem live_eq (L : BitVec 32) (i : ℕ) (hi : i < 12288) :
    IntOp.cmpi CmpIPredicate.slt (IntOp.addi ((k0_pay508 sl.v106 sl.v122 8#32 (divsi sl.v122 sl.v64) sl.v127 0#32 : IVec S1x256 32) (ix2 0 (rowOf (i % 256))))
      (Scalar.muli (Scf.iv (0#32) (1#32) (i / 256)) 256#32)) L = if (i : ℤ) < L.toInt then 1#1 else 0#1 := by
  rw [v147_apply]
  have h1 : 32 * ((rowOf (i % 256)).val % 8) + (rowOf (i % 256)).val / 8 = i % 256 := slotOf_rowOf _ (Nat.mod_lt _ (by norm_num))
  rw [h1]
  have h2 : IntOp.addi (BitVec.ofNat 32 (i % 256)) (Scalar.muli (Scf.iv (0#32 : BitVec 32) (1#32) (i / 256)) 256#32) = BitVec.ofNat 32 i := by
    apply BitVec.eq_of_toNat_eq
    show (BitVec.ofNat 32 (i % 256) + (Scalar.muli (Scf.iv (0#32 : BitVec 32) (1#32) (i / 256)) 256#32)).toNat = _
    rw [BitVec.toNat_add, Body.iv_mul (i / 256) (by omega), BitVec.toNat_ofNat, BitVec.toNat_ofNat]
    omega
  rw [h2]
  clear h1 h2
  have h3 : (BitVec.ofNat 32 i).toInt = i := by
    rw [BitVec.toInt_eq_toNat_of_lt (by rw [BitVec.toNat_ofNat]; omega), BitVec.toNat_ofNat, Nat.mod_eq_of_lt (by omega)]
  unfold IntOp.cmpi
  by_cases h : (i : ℤ) < L.toInt
  · rw [if_pos h]
    show BitVec.ofBool (BitVec.slt _ _) = _
    rw [BitVec.slt_eq_decide, h3, decide_eq_true h]; rfl
  · rw [if_neg h]
    show BitVec.ofBool (BitVec.slt _ _) = _
    rw [BitVec.slt_eq_decide, h3, decide_eq_false h]; rfl

/-- The table's column at pixel `p`, indexed by number. -/
def mcol (p : Fin 256) (n : ℕ) : EReal := if h : n < 32 then mono (ix2 ⟨n, h⟩ p) else 0

/-- What the tile's words must satisfy: a live slot's parameters are finite. -/
def Finite (ws : ℕ → ℕ → BitVec 32) (L : BitVec 32) : Prop :=
  ∀ t, 24 ≤ t → t < 30 → ∀ i : ℕ, i < 12288 → (i : ℤ) < L.toInt → ws t i &&& 2139095040#32 ≠ 2139095040#32

/-- The loop's opacity is the blend's. -/
theorem Ag_eq (L : BitVec 32) (ox oy : ℝ) (hf : Finite (wslot x3) L) (i : ℕ) (hi : i < 12288) (p : Fin 256) :
    Ag L ((ox + 8 : ℝ) : EReal) ((oy + 8 : ℝ) : EReal) x3 mono i p = (alpha (wslot x3) L ox oy i p : EReal) := by
  unfold Ag A PW OP
  rw [op_apply, par_slot, pw_apply, live_eq L i hi]
  have hsum : ∀ c : ℕ → EReal, ∑ n : Fin 32, cf3 c n * mono (ix2 n p) = ∑ n : Fin 32, cf3 c n * mcol p n := by
    intro c
    refine Finset.sum_congr rfl fun n _ => ?_
    unfold mcol
    rw [dif_pos n.isLt]
  rw [hsum]
  unfold alpha
  by_cases h : (i : ℤ) < L.toInt
  · rw [if_pos h, if_pos h]
    have fin := fun t h1 h2 => ofBits_real _ (hf t h1 h2 i hi h)
    have hl : (Named.named (F := Ideal) κ "log2e" 0x3FB8AA3B#32 : Ideal .f32) = ((Real.log 2)⁻¹ : ℝ) := rfl
    rw [hl, sum_cf3_live _ (realOf (wslot x3 24 i)) (realOf (wslot x3 25 i)) (realOf (wslot x3 26 i)) (realOf (wslot x3 27 i)) (realOf (wslot x3 28 i))
      (ox + 8) (oy + 8) (xm p) (ym p) (fun t => k0_pay8 sl.v59 (Xpar x3 (i / 256)) (ix2 t (rowOf (i % 256))))
      ((par_slot x3 i 0).trans (fin 24 (by norm_num) (by norm_num))) ((par_slot x3 i 1).trans (fin 25 (by norm_num) (by norm_num)))
      ((par_slot x3 i 2).trans (fin 26 (by norm_num) (by norm_num))) ((par_slot x3 i 3).trans (fin 27 (by norm_num) (by norm_num)))
      ((par_slot x3 i 4).trans (fin 28 (by norm_num) (by norm_num)))
      (mcol p) (mono0 p) (mono1 p) (mono2 p) (mono3 p) (mono4 p) (mono5 p), exp2_log2, cap_coe]
    have h5 : Ideal.ofBits .f32 (wslot x3 (24 + (5 : Fin 8).val) i) = (realOf (wslot x3 29 i) : EReal) := fin 29 (by norm_num) (by norm_num)
    rw [h5, ← EReal.coe_mul, ← EReal.coe_strictMono.monotone.map_min]
    have hX : ∀ u, xm p - (u - (ox + 8)) = ((p.val % 16 : ℕ) : ℝ) + 1 / 2 + ox - u := fun u => by unfold xm; ring
    have hY : ∀ u, ym p - (u - (oy + 8)) = ((p.val / 16 : ℕ) : ℝ) + 1 / 2 + oy - u := fun u => by unfold ym; ring
    unfold gauss
    rw [hX, hY]
  · rw [if_neg h, if_neg h, sum_cf3_bot _ rfl (mcol p) (mono5 p)]
    have : Ideal.exp2 ⊥ = 0 := rfl
    rw [this, mul_zero, cap_coe, EReal.coe_zero, min_eq_right]
    exact EReal.coe_nonneg.2 cap_pos.le

theorem Tg_eq (L : BitVec 32) (ox oy : ℝ) (hf : Finite (wslot x3) L) (n : ℕ) (hn : n ≤ 12288) (p : Fin 256) :
    Tg L ((ox + 8 : ℝ) : EReal) ((oy + 8 : ℝ) : EReal) x3 mono n p = (trans (fun i => alpha (wslot x3) L ox oy i p) n : EReal) := by
  rw [← trans_coe]
  refine Finset.prod_congr rfl fun i hi => ?_
  rw [Ag_eq x3 L ox oy hf i (by have := Finset.mem_range.1 hi; omega)]

theorem Sg_eq (L : BitVec 32) (ox oy : ℝ) (hf : Finite (wslot x3) L) (n : ℕ) (hn : n ≤ 12288) (f : Fin 96) (p : Fin 256) :
    Sg L ((ox + 8 : ℝ) : EReal) ((oy + 8 : ℝ) : EReal) x3 mono n f p = blend (wslot x3) L ox oy n f.val p := by
  refine Finset.sum_congr rfl fun i hi => ?_
  have hi' := Finset.mem_range.1 hi
  rw [Fg_slot, Ag_eq x3 L ox oy hf i (by omega), Tg_eq x3 L ox oy hf i (by omega), ← EReal.coe_mul]

end

end Cert.KernelIdeal.Chunk

end
-- ==== Proof.Tile.lean ====
module

public import proofs.«01_k».proof.Proof.TileValue

/-! # A tile's accumulator after the loops

Whatever the blocks hold, the accumulator the epilogue reads is the blend of all 12288 slots of the tile. -/

@[expose] public section

set_option maxRecDepth 65536

noncomputable section

namespace Cert.KernelIdeal.Chunk

open Cert.KernelIdeal Cert.KernelIdeal.Gen
open Idealize.ShloMosaic Idealize.ShloMosaic.TcCoe Idealize.SL Idealize.SL.Sem
open Cert.KernelIdeal.Body.kernelRun
open Cert.Blend

variable (c : Dev nD) (i : grid0.Coords)

/-- The tile's number. -/
def tileOf (i : grid0.Coords) : Fin 7 := ⟨(i 0).val, (i 0).isLt⟩

theorem word_nat (n : ℕ) (h : n < 7) : (Scalar.indexCast (BitVec.ofNat 32 n) : BitVec 32).toNat = n := by
  show (BitVec.ofNat 32 n).toNat = n
  rw [BitVec.toNat_ofNat, Nat.mod_eq_of_lt (by omega)]

theorem first_val {s : Shape} (h : 0 < s.numel) (a : Fin s.rank) : (Shape.Idx.first h a).val = 0 := rfl

theorem r_eq (arg2 : Memref sig .tc .smem S7 .i32) (h2 : arg2.IsWhole) (x2 : Vec Ideal S7 .i32) :
    sl.r c i arg2 h2 x2 = x2 (ix1 (tileOf i)) := by
  unfold sl.r
  rw [View.readAt_apply, h2.read_unread]
  refine congrArg x2 (funext fun a => Fin.ext ?_)
  match a with
  | ⟨0, _⟩ =>
    show (Scalar.indexCast (BitVec.ofNat 32 (i 0).val) : BitVec 32).toNat + 1 * 0 = (i 0).val
    rw [word_nat _ (i 0).isLt]; omega

theorem r1_eq (arg1 : Memref sig .tc .smem S7x2 .f32) (h1 : arg1.IsWhole) (x1 : Vec Ideal S7x2 .f32) :
    sl.r_1 c i arg1 h1 x1 = x1 (ix2 (tileOf i) 0) := by
  unfold sl.r_1
  rw [View.readAt_apply, h1.read_unread]
  refine congrArg x1 (funext fun a => Fin.ext ?_)
  match a with
  | ⟨0, _⟩ =>
    show (Scalar.indexCast (BitVec.ofNat 32 (i 0).val) : BitVec 32).toNat + 1 * 0 = (i 0).val
    rw [word_nat _ (i 0).isLt]; omega
  | ⟨1, _⟩ => rfl

theorem r2_eq (arg1 : Memref sig .tc .smem S7x2 .f32) (h1 : arg1.IsWhole) (x1 : Vec Ideal S7x2 .f32) :
    sl.r_2 c i arg1 h1 x1 = x1 (ix2 (tileOf i) 1) := by
  unfold sl.r_2
  rw [View.readAt_apply, h1.read_unread]
  refine congrArg x1 (funext fun a => Fin.ext ?_)
  match a with
  | ⟨0, _⟩ =>
    show (Scalar.indexCast (BitVec.ofNat 32 (i 0).val) : BitVec 32).toNat + 1 * 0 = (i 0).val
    rw [word_nat _ (i 0).isLt]; omega
  | ⟨1, _⟩ => rfl

theorem eight : Ideal.ofBits .f32 0x41000000#32 = ((8 : ℝ) : EReal) := by
  rw [f32_val 0x41000000#32 false 130 0 (by decide) (by decide) (by decide) (by decide) (by decide)]
  congr 1
  norm_num

theorem v4_eq (arg1 : Memref sig .tc .smem S7x2 .f32) (h1 : arg1.IsWhole) (x1 : Vec Ideal S7x2 .f32) (ox : ℝ) (h : x1 (ix2 (tileOf i) 0) = (ox : EReal)) :
    sl.v4 (F := Ideal) c i arg1 h1 x1 = ((ox + 8 : ℝ) : EReal) := by
  show sl.r_1 c i arg1 h1 x1 + Ideal.ofBits .f32 0x41000000#32 = _
  rw [r1_eq, h, eight, EReal.coe_add]

theorem v7_eq (arg1 : Memref sig .tc .smem S7x2 .f32) (h1 : arg1.IsWhole) (x1 : Vec Ideal S7x2 .f32) (oy : ℝ) (h : x1 (ix2 (tileOf i) 1) = (oy : EReal)) :
    sl.v7 (F := Ideal) c i arg1 h1 x1 = ((oy + 8 : ℝ) : EReal) := by
  show sl.r_2 c i arg1 h1 x1 + Ideal.ofBits .f32 0x41000000#32 = _
  rw [r2_eq, h, eight, EReal.coe_add]

variable (arg1 : Memref sig .tc .smem S7x2 .f32) (h1 : arg1.IsWhole) (arg2 : Memref sig .tc .smem S7 .i32) (h2 : arg2.IsWhole) (arg3 : Memref sig .tc .vmem S32x12288 .i32) (h3 : arg3.IsWhole) (arg4 : Memref sig .tc .vmem S32x256 .bf16) (h4 : arg4.IsWhole) (arg5 : Memref sig .tc .vmem S96x512 .fp8e4m3) (h5 : arg5.IsWhole) (arg6 : Memref sig .tc .vmem S1x512 .f32) (h6 : arg6.IsWhole) (arg7 : Memref sig .tc .vmem S1x512 .f32) (h7 : arg7.IsWhole) (arg8 : Memref sig .tc .vmem S1x256x512 .bf16) (h8 : arg8.IsWhole) (arg9 : Memref sig .tc .vmem S1x96x256 .fp8e4m3) (h9 : arg9.IsWhole) (arg10 : Memref sig .tc .vmem S1x1x256 .f32) (h10 : arg10.IsWhole) (arg11 : Memref sig .tc .vmem S96x256 .f32) (h11 : arg11.IsWhole) (arg12 : Memref sig .tc .vmem S8x256 .f32) (h12 : arg12.IsWhole)
  (x1 : Vec Ideal S7x2 .f32) (x2 : Vec Ideal S7 .i32) (x3 : Vec Ideal S32x12288 .i32) (hx : ∀ y : S7.Idx, BitVec.toInt (x2 y) ≤ 12288)

theorem v157_loop (hv : (sl.r c i arg2 h2 x2 : BitVec 32).toInt ≤ 12288) (f : Fin 96) (p : Fin 256) :
    sl.v157 c i arg1 h1 arg2 h2 arg3 h3 arg4 h4 arg5 h5 arg6 h6 arg7 h7 arg8 h8 arg9 h9 arg10 h10 arg11 h11 arg12 h12 x1 x2 x3 mono hx (ix2 f p)
      = Sg (sl.r c i arg2 h2 x2) (sl.v4 (F := Ideal) c i arg1 h1 x1) (sl.v7 (F := Ideal) c i arg1 h1 x1) x3 mono (256 * (k0_t1_loop (sl.r c i arg2 h2 x2)).trips) f p := by
  have key := (loop_val Variants.none c none i arg1 h1 arg2 h2 arg3 h3 arg4 h4 arg5 h5 arg6 h6 arg7 h7 arg8 h8 arg9 h9 arg10 h10 arg11 h11 arg12 h12 (sl.r c i arg2 h2 x2) (Body.chk_of_le _ hv)
    (sl.v4 (F := Ideal) c i arg1 h1 x1) (sl.v7 (F := Ideal) c i arg1 h1 x1) (h3.unread x3) (h4.unread mono) 0#32
    (arg11.view.writes (Elt Ideal) arg11.view.junk sl.H11_1) (arg12.view.writes (Elt Ideal) arg12.view.junk sl.H12_1) hv
    (fun f p => by
      unfold sl.H11_1
      rw [View.read_writes_full]
      exact Ideal.ofBits_zero_f32)
    (fun s p => by
      unfold sl.H12_1
      rw [View.read_writes_full]
      exact Ideal.ofBits_one_f32) _ le_rfl).1 f p
  rw [h3.read_unread, h4.read_unread] at key
  have ht2 : Scf.trips (k0_t2_loop (sl.r c i arg2 h2 x2)).lb (k0_t2_loop (sl.r c i arg2 h2 x2)).ub (k0_t2_loop (sl.r c i arg2 h2 x2)).st = 0 := Body.t2_trips _
  refine Eq.trans ?_ key
  rw [← View.writes_append]
  unfold sl.v157 View.readCov
  rw [View.readAt_full, ht2, st_k0_t2.eq_1]
  dsimp only [List.nil_append]

/-- The accumulator the epilogue reads. -/
theorem v157_eq (ox oy : ℝ) (ho : 0 < (x2 (ix1 (tileOf i)) : BitVec 32).toInt → x1 (ix2 (tileOf i) 0) = (ox : EReal) ∧ x1 (ix2 (tileOf i) 1) = (oy : EReal))
    (hf : Finite (wslot x3) (x2 (ix1 (tileOf i)))) (f : Fin 96) (p : Fin 256) :
    sl.v157 c i arg1 h1 arg2 h2 arg3 h3 arg4 h4 arg5 h5 arg6 h6 arg7 h7 arg8 h8 arg9 h9 arg10 h10 arg11 h11 arg12 h12 x1 x2 x3 mono hx (ix2 f p)
      = blend (wslot x3) (x2 (ix1 (tileOf i))) ox oy 12288 f.val p := by
  rw [v157_loop _ _ _ _ _ _ _ _ _ _ _ _ _ _ _ _ _ _ _ _ _ _ _ _ _ _ _ _ _ _ (by rw [r_eq]; exact hx _), r_eq]
  have hv := hx (ix1 (tileOf i))
  generalize x2 (ix1 (tileOf i)) = L at *
  have ht : (k0_t1_loop L).trips = ((L.toInt + 255).tdiv 256).toNat := Body.t1_trips L hv
  have hle : (k0_t1_loop L).trips ≤ 48 := Body.t1_trips_le L hv
  by_cases hL : 0 < L.toInt
  · obtain ⟨e1, e2⟩ := ho hL
    rw [v4_eq c i arg1 h1 x1 ox e1, v7_eq c i arg1 h1 x1 oy e2, Sg_eq x3 L ox oy hf _ (by omega)]
    refine (blend_dead (wslot x3) L ox oy _ 12288 ?_ (by omega) f.val p).symm
    rw [ht, Int.tdiv_eq_ediv_of_nonneg (by omega)]
    omega
  · have h0 : (k0_t1_loop L).trips = 0 := by
      rw [ht]
      have : (L.toInt + 255).tdiv 256 ≤ 0 := by
        by_cases h' : 0 ≤ L.toInt + 255
        · rw [Int.tdiv_eq_ediv_of_nonneg h']; omega
        · rw [show L.toInt + 255 = -(-(L.toInt + 255)) by omega, Int.neg_tdiv, Int.tdiv_eq_ediv_of_nonneg (by omega)]; omega
      omega
    rw [h0, blend_dead (wslot x3) L ox oy 0 12288 (by omega) (by norm_num)]
    rfl

end Cert.KernelIdeal.Chunk

end
-- ==== Proof.Epilogue.lean ====
module

public import proofs.«01_k».proof.Proof.Tile
public import proofs.«01_k».proof.Proof.Decode

/-! # The outputs of a tile from its features -/

@[expose] public section

set_option maxRecDepth 65536

noncomputable section

namespace Cert.KernelIdeal.Epilogue

open Cert.KernelIdeal Cert.KernelIdeal.Gen
open Idealize.ShloMosaic Idealize.ShloMosaic.TcCoe Idealize.SL Idealize.SL.Sem
open Cert.Decode

/-- The features at a pixel. -/
def feat (V : Vec Ideal S96x256 .f32) (p : Fin 256) : Fin 96 → EReal := fun f => V (ix2 f p)

theorem one_val : Ideal.ofBits .f32 1065353216#32 = 1 := Ideal.ofBits_one_f32

theorem amax_row (V : Vec Ideal S96x256 .f32) (p : Fin 256) : k0_pay511 V (ix2 0 p) = amax (feat V p) := by
  unfold k0_pay511
  pointwise
  rw [fold_sup]
  rfl

theorem amax_col (V : Vec Ideal S96x256 .f32) (p : Fin 256) : k0_pay521 V (ix2 p 0) = amax (feat V p) := by
  unfold k0_pay521 k0_pay520
  pointwise
  rw [fold_sup]
  exact congrArg (fun z : EReal => z * Ideal.ofBits .f32 991054117#32) (sup_pad (feat V p))

theorem expo_row (V : Vec Ideal S96x256 .f32) (p : Fin 256) :
    k0_pay515 (k0_pay511 V) (k0_pay512 V) (k0_pay513 V) k0_pay514 (ix2 0 p) = kexpo (amax (feat V p)) := by
  have h := amax_row V p
  unfold k0_pay515 k0_pay513 k0_pay512 k0_pay514
  generalize k0_pay511 V = x at h ⊢
  pointwise
  rw [h]
  by_cases hz : amax (feat V p) = 0
  · rw [if_pos hz]; unfold kexpo; rw [decide_eq_true hz]; rfl
  · rw [if_neg hz]; unfold kexpo; rw [decide_eq_false hz]; rfl

theorem scale_row (V : Vec Ideal S96x256 .f32) (p : Fin 256) :
    k0_pay516 (k0_pay511 V) (k0_pay512 V) (k0_pay513 V) k0_pay514 (ix2 0 p) = scale (amax (feat V p)) := by
  have h := expo_row V p
  unfold k0_pay516
  generalize k0_pay515 (k0_pay511 V) (k0_pay512 V) (k0_pay513 V) k0_pay514 = x at h ⊢
  pointwise
  rw [h]
  exact scale_kernel _ (amax_nonneg _)

theorem inv_row (V : Vec Ideal S96x256 .f32) (p : Fin 256) :
    k0_pay517 (k0_pay511 V) (k0_pay512 V) (k0_pay513 V) k0_pay514 (ix2 0 p) = inv (amax (feat V p)) := by
  have h := expo_row V p
  unfold k0_pay517
  generalize k0_pay515 (k0_pay511 V) (k0_pay512 V) (k0_pay513 V) k0_pay514 = x at h ⊢
  pointwise
  rw [h]
  exact inv_kernel _ (amax_nonneg _)

theorem out9 (V : Vec Ideal S96x256 .f32) (f : Fin 96) (p : Fin 256) :
    k0_pay519 V (k0_pay517 (k0_pay511 V) (k0_pay512 V) (k0_pay513 V) k0_pay514) (ValueIdx.ix3 0 f p) = quant (feat V p) f := by
  have h := inv_row V p
  unfold k0_pay519
  generalize k0_pay517 (k0_pay511 V) (k0_pay512 V) (k0_pay513 V) k0_pay514 = x at h ⊢
  pointwise
  rw [h]
  rfl

theorem out10 (V : Vec Ideal S96x256 .f32) (p : Fin 256) :
    k0_pay518 (k0_pay516 (k0_pay511 V) (k0_pay512 V) (k0_pay513 V) k0_pay514) (ValueIdx.ix3 0 0 p) = scale (amax (feat V p)) := by
  have h := scale_row V p
  unfold k0_pay518
  generalize k0_pay516 (k0_pay511 V) (k0_pay512 V) (k0_pay513 V) k0_pay514 = x at h ⊢
  pointwise
  exact h

theorem affine (v : FVec Ideal S256x512 .f32) (a b : Vec Ideal S1x512 .f32) (p : Fin 256) (d' : Fin 512) : k0_pay1 v a b (ValueIdx.ix3 0 p d') = v (ix2 p d') * a (ix2 0 d') + b (ix2 0 d') := by
  unfold k0_pay1
  pointwise

theorem e0_col (V : Vec Ideal S96x256 .f32) (p : Fin 256) : k0_pay523 V (ix2 p 0) = e0 (amax (feat V p)) := by
  have h := amax_col V p
  unfold k0_pay523
  generalize k0_pay521 V = x at h ⊢
  pointwise
  rw [h]
  rfl
theorem word_col (V : Vec Ideal S96x256 .f32) (p : Fin 256) : k0_pay524 V (ix2 p 0) = Ideal.ofBits .f32 (word (IntOp.subi (e0 (amax (feat V p))) 1#32)) := by
  have h := e0_col V p
  unfold k0_pay524
  generalize k0_pay523 V = x at h ⊢
  pointwise
  rw [h]
  rfl
theorem zero_col (V : Vec Ideal S96x256 .f32) (p : Fin 256) : k0_pay522 V (ix2 p 0) = BitVec.ofBool (decide (amax (feat V p) = 0)) := by
  have h := amax_col V p
  unfold k0_pay522
  generalize k0_pay521 V = x at h ⊢
  pointwise
  rw [h]

/-- The features with the pixel first. -/
theorem turned (V : Vec Ideal S96x256 .f32) (p : Fin 256) (x : Fin 96) : k0_pay520 V (ix2 p ⟨x.val, by omega⟩) = feat V p x := by
  unfold k0_pay520
  pointwise
  rfl

theorem product (V : Vec Ideal S96x256 .f32) (x5 : Vec Ideal S96x512 .fp8e4m3) (p : Fin 256) (d : Fin 512) :
    k0_pay525 (k0_pay520 V) (k0_pay521 V) (k0_pay522 V) (k0_pay523 V) (k0_pay524 V) x5 (ix2 p d) =
      (∑ f, quant (feat V p) f * x5 (ix2 f d)) * scale (amax (feat V p)) := by
  have ha := turned V p
  have hb := amax_col V p
  have hc := zero_col V p
  have hd := e0_col V p
  have he := word_col V p
  unfold k0_pay525
  generalize k0_pay520 V = a at ha ⊢
  generalize k0_pay521 V = b at hb ⊢
  generalize k0_pay522 V = c at hc ⊢
  generalize k0_pay523 V = d at hd ⊢
  generalize k0_pay524 V = e at he ⊢
  pointwise
  simp only [hb, hc, hd, he]
  have hs := scale_kernel _ (amax_nonneg (feat V p))
  have hi := inv_kernel _ (amax_nonneg (feat V p))
  refine congrArg₂ (fun x y : EReal => x * y) (Finset.sum_congr rfl fun x _ => ?_) hs
  refine congrArg (fun z : EReal => z * _) ?_
  unfold quant
  rw [← hi, ← ha]
  rfl

theorem out8 (V : Vec Ideal S96x256 .f32) (x5 : Vec Ideal S96x512 .fp8e4m3) (x6 x7 : Vec Ideal S1x512 .f32) (p : Fin 256) (d : Fin 512) :
    k0_pay1 (k0_pay525 (k0_pay520 V) (k0_pay521 V) (k0_pay522 V) (k0_pay523 V) (k0_pay524 V) x5) x6 x7 (ValueIdx.ix3 0 p d) =
      decoded (feat V p) (fun f => x5 (ix2 f d)) (x6 (ix2 0 d)) (x7 (ix2 0 d)) := by
  rw [affine, product]
  rfl

end Cert.KernelIdeal.Epilogue
-- ==== Proof.Outputs.lean ====
module

public import proofs.«01_k».proof.Proof.Epilogue

/-! # What the body leaves in the result blocks -/

@[expose] public section

set_option maxRecDepth 65536

noncomputable section

namespace Cert.KernelIdeal.Outputs

open Cert.KernelIdeal Cert.KernelIdeal.Gen
open Idealize.ShloMosaic Idealize.ShloMosaic.TcCoe Idealize.SL Idealize.SL.Sem
open Cert.KernelIdeal.Chunk Cert.KernelIdeal.Epilogue Cert.KernelIdeal.Body Cert.KernelIdeal.Body.kernelRun
open Cert.Blend Cert.Decode

variable (c : Dev nD) (i : grid0.Coords)
    (arg1 : Memref sig .tc .smem S7x2 .f32) (h1 : arg1.IsWhole)
    (arg2 : Memref sig .tc .smem S7 .i32) (h2 : arg2.IsWhole)
    (arg3 : Memref sig .tc .vmem S32x12288 .i32) (h3 : arg3.IsWhole)
    (arg4 : Memref sig .tc .vmem S32x256 .bf16) (h4 : arg4.IsWhole)
    (arg5 : Memref sig .tc .vmem S96x512 .fp8e4m3) (h5 : arg5.IsWhole)
    (arg6 : Memref sig .tc .vmem S1x512 .f32) (h6 : arg6.IsWhole)
    (arg7 : Memref sig .tc .vmem S1x512 .f32) (h7 : arg7.IsWhole)
    (arg8 : Memref sig .tc .vmem S1x256x512 .bf16) (h8 : arg8.IsWhole)
    (arg9 : Memref sig .tc .vmem S1x96x256 .fp8e4m3) (h9 : arg9.IsWhole)
    (arg10 : Memref sig .tc .vmem S1x1x256 .f32) (h10 : arg10.IsWhole)
    (arg11 : Memref sig .tc .vmem S96x256 .f32) (h11 : arg11.IsWhole)
    (arg12 : Memref sig .tc .vmem S8x256 .f32) (h12 : arg12.IsWhole)
    (x1 : Vec Ideal S7x2 .f32) (x2 : Vec Ideal S7 .i32) (x3 : Vec Ideal S32x12288 .i32)
    (x5 : Vec Ideal S96x512 .fp8e4m3) (x6 x7 : Vec Ideal S1x512 .f32) (hx : ∀ y, (x2 y).toInt ≤ 12288)

theorem y8 : (kernelRun c i arg1 h1 arg2 h2 arg3 h3 arg4 h4 arg5 h5 arg6 h6 arg7 h7 arg8 h8 arg9 h9 arg10 h10 arg11 h11 arg12 h12 x1 x2 x3 mono x5 x6 x7 hx).1 =
    k0_pay1 (k0_pay525 (k0_pay520 (sl.v157 c i arg1 h1 arg2 h2 arg3 h3 arg4 h4 arg5 h5 arg6 h6 arg7 h7 arg8 h8 arg9 h9 arg10 h10 arg11 h11 arg12 h12 x1 x2 x3 mono hx)) (k0_pay521 (sl.v157 c i arg1 h1 arg2 h2 arg3 h3 arg4 h4 arg5 h5 arg6 h6 arg7 h7 arg8 h8 arg9 h9 arg10 h10 arg11 h11 arg12 h12 x1 x2 x3 mono hx)) (k0_pay522 (sl.v157 c i arg1 h1 arg2 h2 arg3 h3 arg4 h4 arg5 h5 arg6 h6 arg7 h7 arg8 h8 arg9 h9 arg10 h10 arg11 h11 arg12 h12 x1 x2 x3 mono hx)) (k0_pay523 (sl.v157 c i arg1 h1 arg2 h2 arg3 h3 arg4 h4 arg5 h5 arg6 h6 arg7 h7 arg8 h8 arg9 h9 arg10 h10 arg11 h11 arg12 h12 x1 x2 x3 mono hx)) (k0_pay524 (sl.v157 c i arg1 h1 arg2 h2 arg3 h3 arg4 h4 arg5 h5 arg6 h6 arg7 h7 arg8 h8 arg9 h9 arg10 h10 arg11 h11 arg12 h12 x1 x2 x3 mono hx)) x5) x6 x7 := by
  have e5 : View.readAt (Elt Ideal) arg5.view (Rect.unit ![0, 0] S96x512.size (by decide)).toLoadRect (h5.unread x5) = x5 :=
    (View.readAt_full _ _ _).trans (h5.read_unread x5)
  have e6 : View.readAt (Elt Ideal) arg6.view (Rect.unit ![0, 0] S1x512.size (by decide)).toLoadRect (h6.unread x6) = x6 :=
    (View.readAt_full _ _ _).trans (h6.read_unread x6)
  have e7 : View.readAt (Elt Ideal) arg7.view (Rect.unit ![0, 0] S1x512.size (by decide)).toLoadRect (h7.unread x7) = x7 :=
    (View.readAt_full _ _ _).trans (h7.read_unread x7)
  conv => rhs; rw [← e5, ← e6, ← e7]
  rfl

theorem y9 : (kernelRun c i arg1 h1 arg2 h2 arg3 h3 arg4 h4 arg5 h5 arg6 h6 arg7 h7 arg8 h8 arg9 h9 arg10 h10 arg11 h11 arg12 h12 x1 x2 x3 mono x5 x6 x7 hx).2.1 = k0_pay519 (sl.v157 c i arg1 h1 arg2 h2 arg3 h3 arg4 h4 arg5 h5 arg6 h6 arg7 h7 arg8 h8 arg9 h9 arg10 h10 arg11 h11 arg12 h12 x1 x2 x3 mono hx) (k0_pay517 (k0_pay511 (sl.v157 c i arg1 h1 arg2 h2 arg3 h3 arg4 h4 arg5 h5 arg6 h6 arg7 h7 arg8 h8 arg9 h9 arg10 h10 arg11 h11 arg12 h12 x1 x2 x3 mono hx)) (k0_pay512 (sl.v157 c i arg1 h1 arg2 h2 arg3 h3 arg4 h4 arg5 h5 arg6 h6 arg7 h7 arg8 h8 arg9 h9 arg10 h10 arg11 h11 arg12 h12 x1 x2 x3 mono hx)) (k0_pay513 (sl.v157 c i arg1 h1 arg2 h2 arg3 h3 arg4 h4 arg5 h5 arg6 h6 arg7 h7 arg8 h8 arg9 h9 arg10 h10 arg11 h11 arg12 h12 x1 x2 x3 mono hx)) k0_pay514) := rfl

theorem y10 : (kernelRun c i arg1 h1 arg2 h2 arg3 h3 arg4 h4 arg5 h5 arg6 h6 arg7 h7 arg8 h8 arg9 h9 arg10 h10 arg11 h11 arg12 h12 x1 x2 x3 mono x5 x6 x7 hx).2.2.1 = k0_pay518 (k0_pay516 (k0_pay511 (sl.v157 c i arg1 h1 arg2 h2 arg3 h3 arg4 h4 arg5 h5 arg6 h6 arg7 h7 arg8 h8 arg9 h9 arg10 h10 arg11 h11 arg12 h12 x1 x2 x3 mono hx)) (k0_pay512 (sl.v157 c i arg1 h1 arg2 h2 arg3 h3 arg4 h4 arg5 h5 arg6 h6 arg7 h7 arg8 h8 arg9 h9 arg10 h10 arg11 h11 arg12 h12 x1 x2 x3 mono hx)) (k0_pay513 (sl.v157 c i arg1 h1 arg2 h2 arg3 h3 arg4 h4 arg5 h5 arg6 h6 arg7 h7 arg8 h8 arg9 h9 arg10 h10 arg11 h11 arg12 h12 x1 x2 x3 mono hx)) k0_pay514) := rfl

variable (ox oy : ℝ) (ho : 0 < (x2 (ix1 (tileOf i)) : BitVec 32).toInt → x1 (ix2 (tileOf i) 0) = (ox : EReal) ∧ x1 (ix2 (tileOf i) 1) = (oy : EReal))
    (hf : Finite (wslot x3) (x2 (ix1 (tileOf i))))

include ho hf in
theorem feat_eq (p : Fin 256) : feat (sl.v157 c i arg1 h1 arg2 h2 arg3 h3 arg4 h4 arg5 h5 arg6 h6 arg7 h7 arg8 h8 arg9 h9 arg10 h10 arg11 h11 arg12 h12 x1 x2 x3 mono hx) p = fun f => blend (wslot x3) (x2 (ix1 (tileOf i))) ox oy 12288 f.val p :=
  funext fun f => v157_eq c i arg1 h1 arg2 h2 arg3 h3 arg4 h4 arg5 h5 arg6 h6 arg7 h7 arg8 h8 arg9 h9 arg10 h10 arg11 h11 arg12 h12 x1 x2 x3 hx ox oy ho hf f p

include ho hf in
theorem run8 (p : Fin 256) (d : Fin 512) : (kernelRun c i arg1 h1 arg2 h2 arg3 h3 arg4 h4 arg5 h5 arg6 h6 arg7 h7 arg8 h8 arg9 h9 arg10 h10 arg11 h11 arg12 h12 x1 x2 x3 mono x5 x6 x7 hx).1 (ValueIdx.ix3 0 p d) =
    decoded (fun f => blend (wslot x3) (x2 (ix1 (tileOf i))) ox oy 12288 f.val p) (fun f => x5 (ix2 f d)) (x6 (ix2 0 d)) (x7 (ix2 0 d)) := by
  rw [y8, out8, feat_eq c i arg1 h1 arg2 h2 arg3 h3 arg4 h4 arg5 h5 arg6 h6 arg7 h7 arg8 h8 arg9 h9 arg10 h10 arg11 h11 arg12 h12 x1 x2 x3 hx ox oy ho hf p]

include ho hf in
theorem run9 (f : Fin 96) (p : Fin 256) : (kernelRun c i arg1 h1 arg2 h2 arg3 h3 arg4 h4 arg5 h5 arg6 h6 arg7 h7 arg8 h8 arg9 h9 arg10 h10 arg11 h11 arg12 h12 x1 x2 x3 mono x5 x6 x7 hx).2.1 (ValueIdx.ix3 0 f p) = quant (fun f => blend (wslot x3) (x2 (ix1 (tileOf i))) ox oy 12288 f.val p) f := by
  rw [y9, out9, feat_eq c i arg1 h1 arg2 h2 arg3 h3 arg4 h4 arg5 h5 arg6 h6 arg7 h7 arg8 h8 arg9 h9 arg10 h10 arg11 h11 arg12 h12 x1 x2 x3 hx ox oy ho hf p]

include ho hf in
theorem run10 (p : Fin 256) : (kernelRun c i arg1 h1 arg2 h2 arg3 h3 arg4 h4 arg5 h5 arg6 h6 arg7 h7 arg8 h8 arg9 h9 arg10 h10 arg11 h11 arg12 h12 x1 x2 x3 mono x5 x6 x7 hx).2.2.1 (ValueIdx.ix3 0 0 p) = scale (amax (fun f => blend (wslot x3) (x2 (ix1 (tileOf i))) ox oy 12288 f.val p)) := by
  rw [y10, out10, feat_eq c i arg1 h1 arg2 h2 arg3 h3 arg4 h4 arg5 h5 arg6 h6 arg7 h7 arg8 h8 arg9 h9 arg10 h10 arg11 h11 arg12 h12 x1 x2 x3 hx ox oy ho hf p]

end Cert.KernelIdeal.Outputs
-- ==== Proof.KernelArr.lean ====
module

public import proofs.«01_k».proof.Proof.Outputs
public import proofs.«01_k».proof.Proof.BodyKernelIdeal

/-! # The kernel's three result arrays, element by element -/

@[expose] public section

set_option maxRecDepth 65536

noncomputable section

namespace Cert.KernelIdeal.Arr

open Cert.KernelIdeal Cert.KernelIdeal.Gen
open Idealize.ShloMosaic Idealize.ShloMosaic.TcCoe Idealize.SL Idealize.SL.Sem
open Cert.KernelIdeal.Chunk Cert.KernelIdeal.Epilogue Cert.KernelIdeal.Body Cert.KernelIdeal.Outputs
open Cert.Blend Cert.Decode

variable (m : (ℓ : Loc nD τ sig) → Buf (Elt Ideal) ℓ)

/-- Where each window's block lies, at every point. -/
theorem idx_facts : ∀ t : Fin grid0.N,
    ((grid0.coords t) 0).val = t.val ∧ win0_0.index t (0 : Fin 2) = 0 ∧ win0_0.index t (1 : Fin 2) = 0 ∧ win0_1.index t (0 : Fin 1) = 0
    ∧ win0_2.index t (0 : Fin 2) = 0 ∧ win0_2.index t (1 : Fin 2) = t.val ∧ win0_3.index t (0 : Fin 2) = 0 ∧ win0_3.index t (1 : Fin 2) = 0
    ∧ win0_4.index t (0 : Fin 2) = 0 ∧ win0_4.index t (1 : Fin 2) = 0 ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val ∧ win0_7.index t (1 : Fin 3) = 0 ∧ win0_7.index t (2 : Fin 3) = 0
    ∧ win0_8.index t (0 : Fin 3) = t.val ∧ win0_8.index t (1 : Fin 3) = 0 ∧ win0_8.index t (2 : Fin 3) = 0
    ∧ win0_9.index t (0 : Fin 3) = t.val ∧ win0_9.index t (1 : Fin 3) = 0 ∧ win0_9.index t (2 : Fin 3) = 0 := by decide +kernel

theorem iblk0_eq (c : Dev nD) (t : Fin cfg0.N) (z : S7x2.Idx) : iblk m c 0 t z = m ((c : Thread nD τ).loc main_arg0) z := by
  show V m c main_arg0 (((cfg0.win 0).blk t).view.emb z) = _
  have : ((cfg0.win 0).blk t).view.emb z = z := by
    obtain ⟨_, a, b, _⟩ := idx_facts t
    funext x; apply Fin.ext
    match x with
    | ⟨0, _⟩ => show win0_0.index t (0 : Fin 2) * 7 + 1 * (z 0).val = (z 0).val; omega
    | ⟨1, _⟩ => show win0_0.index t (1 : Fin 2) * 2 + 1 * (z 1).val = (z 1).val; omega
  rw [this]
  exact congrFun (V_main_arg0 m c) z

theorem iblk1_eq (c : Dev nD) (t : Fin cfg0.N) (z : S7.Idx) : iblk m c 1 t z = m ((c : Thread nD τ).loc main_arg1) z := by
  show V m c main_arg1 (((cfg0.win 1).blk t).view.emb z) = _
  have : ((cfg0.win 1).blk t).view.emb z = z := by
    obtain ⟨_, _, _, a, _⟩ := idx_facts t
    funext x; apply Fin.ext
    match x with
    | ⟨0, _⟩ => show win0_1.index t (0 : Fin 1) * 7 + 1 * (z 0).val = (z 0).val; omega
  rw [this]
  exact congrFun (V_main_arg1 m c) z

theorem iblk2_eq (c : Dev nD) (t : Fin cfg0.N) (r : Fin 32) (q : Fin 12288) (h : t.val * 12288 + q.val < 86016) :
    iblk m c 2 t (ix2 r q) = m ((c : Thread nD τ).loc main_arg2) (ix2 r ⟨t.val * 12288 + q.val, h⟩) := by
  show V m c main_arg2 (((cfg0.win 2).blk t).view.emb (ix2 r q)) = _
  have : ((cfg0.win 2).blk t).view.emb (ix2 r q) = ix2 r ⟨t.val * 12288 + q.val, h⟩ := by
    obtain ⟨_, _, _, _, a, b, _⟩ := idx_facts t
    funext x; apply Fin.ext
    match x with
    | ⟨0, _⟩ => show win0_2.index t (0 : Fin 2) * 32 + 1 * r.val = r.val; omega
    | ⟨1, _⟩ => show win0_2.index t (1 : Fin 2) * 12288 + 1 * q.val = t.val * 12288 + q.val; omega
  rw [this]
  exact congrFun (V_main_arg2 m c) _

theorem iblk3_eq (c : Dev nD) (t : Fin cfg0.N) : iblk m c 3 t = mono := by
  funext z
  show V m c main_cst (((cfg0.win 3).blk t).view.emb z) = _
  have : ((cfg0.win 3).blk t).view.emb z = z := by
    obtain ⟨_, _, _, _, _, _, a, b, _⟩ := idx_facts t
    funext x; apply Fin.ext
    match x with
    | ⟨0, _⟩ => show win0_3.index t (0 : Fin 2) * 32 + 1 * (z 0).val = (z 0).val; omega
    | ⟨1, _⟩ => show win0_3.index t (1 : Fin 2) * 256 + 1 * (z 1).val = (z 1).val; omega
  rw [this]
  have : V m c main_cst = mono := by
    unfold_abbrev_sides
    after_results
    rfl
  exact congrFun this z

theorem iblk4_eq (c : Dev nD) (t : Fin cfg0.N) (z : S96x512.Idx) : iblk m c 4 t z = m ((c : Thread nD τ).loc main_arg3) z := by
  show V m c main_arg3 (((cfg0.win 4).blk t).view.emb z) = _
  have : ((cfg0.win 4).blk t).view.emb z = z := by
    obtain ⟨_, _, _, _, _, _, _, _, a, b, _⟩ := idx_facts t
    funext x; apply Fin.ext
    match x with
    | ⟨0, _⟩ => show win0_4.index t (0 : Fin 2) * 96 + 1 * (z 0).val = (z 0).val; omega
    | ⟨1, _⟩ => show win0_4.index t (1 : Fin 2) * 512 + 1 * (z 1).val = (z 1).val; omega
  rw [this]
  exact congrFun (V_main_arg3 m c) z

theorem iblk5_eq (c : Dev nD) (t : Fin cfg0.N) (d : Fin 512) : iblk m c 5 t (ix2 0 d) = m ((c : Thread nD τ).loc main_arg4) (ix1 d) := by
  show V m c main_v0 (((cfg0.win 5).blk t).view.emb (ix2 0 d)) = _
  have : ((cfg0.win 5).blk t).view.emb (ix2 0 d) = ix2 0 d := by
    obtain ⟨_, _, _, _, _, _, _, _, _, _, a, b, _⟩ := idx_facts t
    funext x; apply Fin.ext
    match x with
    | ⟨0, _⟩ => show win0_5.index t (0 : Fin 2) * 1 + 1 * 0 = 0; omega
    | ⟨1, _⟩ => show win0_5.index t (1 : Fin 2) * 512 + 1 * d.val = d.val; omega
  rw [this]
  have : V m c main_v0 = shapeCast S1x512 (m ((c : Thread nD τ).loc main_arg4)) shapeCasts_S512_S1x512 := by
    unfold_abbrev_sides
    after_results
    rfl
  rw [this]
  generalize m ((c : Thread nD τ).loc main_arg4) = x
  pointwise

theorem iblk6_eq (c : Dev nD) (t : Fin cfg0.N) (d : Fin 512) : iblk m c 6 t (ix2 0 d) = m ((c : Thread nD τ).loc main_arg5) (ix1 d) := by
  show V m c main_v1 (((cfg0.win 6).blk t).view.emb (ix2 0 d)) = _
  have : ((cfg0.win 6).blk t).view.emb (ix2 0 d) = ix2 0 d := by
    obtain ⟨_, _, _, _, _, _, _, _, _, _, _, _, a, b, _⟩ := idx_facts t
    funext x; apply Fin.ext
    match x with
    | ⟨0, _⟩ => show win0_6.index t (0 : Fin 2) * 1 + 1 * 0 = 0; omega
    | ⟨1, _⟩ => show win0_6.index t (1 : Fin 2) * 512 + 1 * d.val = d.val; omega
  rw [this]
  have : V m c main_v1 = shapeCast S1x512 (m ((c : Thread nD τ).loc main_arg5)) shapeCasts_S512_S1x512 := by
    unfold_abbrev_sides
    after_results
    rfl
  rw [this]
  generalize m ((c : Thread nD τ).loc main_arg5) = x
  pointwise

end Cert.KernelIdeal.Arr
-- ==== Proof.KernelOut.lean ====
module

public import proofs.«01_k».proof.Proof.KernelArr
public import proofs.«01_k».proof.Proof.Spec
public import Idealize.ShloMosaic.Lib.Pipeline.Value

/-! # The kernel's results are the specification's -/

@[expose] public section

set_option maxRecDepth 65536

noncomputable section

namespace Cert.KernelIdeal.Arr

open Cert.KernelIdeal Cert.KernelIdeal.Gen
open Idealize.ShloMosaic Idealize.ShloMosaic.TcCoe Idealize.SL Idealize.SL.Sem
open Cert.KernelIdeal.Chunk Cert.KernelIdeal.Body Cert.KernelIdeal.Outputs
open Cert.Decode Cert.Spec

variable (m : (ℓ : Loc nD τ sig) → Buf (Elt Ideal) ℓ)

/-- The point of a tile. -/
def pt (t : Fin 7) : Fin cfg0.N := t

theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (Fin.ext (by
    have := congrFun h (0 : Fin 3)
    obtain ⟨_, _, _, _, _, _, _, _, _, _, _, _, _, _, a, _⟩ := idx_facts t
    obtain ⟨_, _, _, _, _, _, _, _, _, _, _, _, _, _, b, _⟩ := idx_facts t'
    rw [← a, ← b]; exact this))

theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (Fin.ext (by
    have := congrFun h (0 : Fin 3)
    obtain ⟨_, _, _, _, _, _, _, _, _, _, _, _, _, _, _, _, _, a, _⟩ := idx_facts t
    obtain ⟨_, _, _, _, _, _, _, _, _, _, _, _, _, _, _, _, _, b, _⟩ := idx_facts t'
    rw [← a, ← b]; exact this))

theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (Fin.ext (by
    have := congrFun h (0 : Fin 3)
    obtain ⟨_, _, _, _, _, _, _, _, _, _, _, _, _, _, _, _, _, _, _, _, a, _⟩ := idx_facts t
    obtain ⟨_, _, _, _, _, _, _, _, _, _, _, _, _, _, _, _, _, _, _, _, b, _⟩ := idx_facts t'
    rw [← a, ← b]; exact this))

theorem flush7 : ∀ t : Fin grid0.N, win0_7.flush t = true := by decide +kernel
theorem flush8 : ∀ t : Fin grid0.N, win0_8.flush t = true := by decide +kernel
theorem flush9 : ∀ t : Fin grid0.N, win0_9.flush t = true := by decide +kernel

variable (hf : Fits m)

theorem arr7 (c : Dev nD) (t : Fin cfg0.N) (p : Fin 256) (d : Fin 512) :
    (dats m hf 0 c).arrAt 7 cfg0.N (ValueIdx.ix3 ⟨t.val, t.isLt⟩ p d) = outs7 m hf c t (ValueIdx.ix3 0 p d) := by
  have b := congrFun ((dats m hf 0 c).read_blk_arrAt_eq_flushed 7 disjoint7 cfg0.N t t.isLt (flush7 t)) (ValueIdx.ix3 0 p d)
  have b' : (dats m hf 0 c).arrAt 7 cfg0.N (((cfg0.win 7).blk t).view.emb (ValueIdx.ix3 0 p d)) = outs7 m hf c t (ValueIdx.ix3 0 p d) := b
  rw [← b']
  refine congrArg _ ?_
  obtain ⟨_, _, _, _, _, _, _, _, _, _, _, _, _, _, a, e, g, _⟩ := idx_facts t
  funext x; apply Fin.ext
  match x with
  | ⟨0, _⟩ => show t.val = win0_7.index t (0 : Fin 3) * 1 + 1 * 0; omega
  | ⟨1, _⟩ => show p.val = win0_7.index t (1 : Fin 3) * 256 + 1 * p.val; omega
  | ⟨2, _⟩ => show d.val = win0_7.index t (2 : Fin 3) * 512 + 1 * d.val; omega

theorem arr8 (c : Dev nD) (t : Fin cfg0.N) (f : Fin 96) (p : Fin 256) :
    (dats m hf 0 c).arrAt 8 cfg0.N (ValueIdx.ix3 ⟨t.val, t.isLt⟩ f p) = outs8 m hf c t (ValueIdx.ix3 0 f p) := by
  have b := congrFun ((dats m hf 0 c).read_blk_arrAt_eq_flushed 8 disjoint8 cfg0.N t t.isLt (flush8 t)) (ValueIdx.ix3 0 f p)
  have b' : (dats m hf 0 c).arrAt 8 cfg0.N (((cfg0.win 8).blk t).view.emb (ValueIdx.ix3 0 f p)) = outs8 m hf c t (ValueIdx.ix3 0 f p) := b
  rw [← b']
  refine congrArg _ ?_
  obtain ⟨_, _, _, _, _, _, _, _, _, _, _, _, _, _, _, _, _, a, e, g, _⟩ := idx_facts t
  funext x; apply Fin.ext
  match x with
  | ⟨0, _⟩ => show t.val = win0_8.index t (0 : Fin 3) * 1 + 1 * 0; omega
  | ⟨1, _⟩ => show f.val = win0_8.index t (1 : Fin 3) * 96 + 1 * f.val; omega
  | ⟨2, _⟩ => show p.val = win0_8.index t (2 : Fin 3) * 256 + 1 * p.val; omega

theorem arr9 (c : Dev nD) (t : Fin cfg0.N) (p : Fin 256) :
    (dats m hf 0 c).arrAt 9 cfg0.N (ValueIdx.ix3 ⟨t.val, t.isLt⟩ 0 p) = outs9 m hf c t (ValueIdx.ix3 0 0 p) := by
  have b := congrFun ((dats m hf 0 c).read_blk_arrAt_eq_flushed 9 disjoint9 cfg0.N t t.isLt (flush9 t)) (ValueIdx.ix3 0 0 p)
  have b' : (dats m hf 0 c).arrAt 9 cfg0.N (((cfg0.win 9).blk t).view.emb (ValueIdx.ix3 0 0 p)) = outs9 m hf c t (ValueIdx.ix3 0 0 p) := b
  rw [← b']
  refine congrArg _ ?_
  obtain ⟨_, _, _, _, _, _, _, _, _, _, _, _, _, _, _, _, _, _, _, _, a, e, g⟩ := idx_facts t
  funext x; apply Fin.ext
  match x with
  | ⟨0, _⟩ => show t.val = win0_9.index t (0 : Fin 3) * 1 + 1 * 0; omega
  | ⟨1, _⟩ => show 0 = win0_9.index t (1 : Fin 3) * 1 + 1 * 0; omega
  | ⟨2, _⟩ => show p.val = win0_9.index t (2 : Fin 3) * 256 + 1 * p.val; omega

/-- The arguments on a core. -/
abbrev a0 (c : Dev nD) : Vec Ideal S7x2 .f32 := m ((c : Thread nD τ).loc main_arg0)
abbrev a1 (c : Dev nD) : Vec Ideal S7 .i32 := m ((c : Thread nD τ).loc main_arg1)
abbrev a2 (c : Dev nD) : Vec Ideal S32x86016 .i32 := m ((c : Thread nD τ).loc main_arg2)
abbrev a3 (c : Dev nD) : Vec Ideal S96x512 .fp8e4m3 := m ((c : Thread nD τ).loc main_arg3)
abbrev a4 (c : Dev nD) : Vec Ideal S512 .f32 := m ((c : Thread nD τ).loc main_arg4)
abbrev a5 (c : Dev nD) : Vec Ideal S512 .f32 := m ((c : Thread nD τ).loc main_arg5)

theorem tile_eq (t : Fin cfg0.N) : tileOf (grid0.coords t) = (⟨t.val, t.isLt⟩ : Fin 7) := Fin.ext (idx_facts t).1

theorem ws_eq (c : Dev nD) (t : Fin cfg0.N) : wslot (iblk m c 2 t) = slotW (a2 m c) ⟨t.val, t.isLt⟩ := by
  funext r i
  exact iblk2_eq m c t _ _ _

theorem len_eq (c : Dev nD) (t : Fin cfg0.N) : iblk m c 1 t (ix1 (tileOf (grid0.coords t))) = a1 m c (ix1 ⟨t.val, t.isLt⟩) := by
  rw [tile_eq]; exact iblk1_eq m c t _

variable (c : Dev nD) (t : Fin cfg0.N) (hg : Good (a0 m c) (a1 m c) (a2 m c))

include hg in
theorem outs7_eq (p : Fin 256) (d : Fin 512) : outs7 m hf c t (ValueIdx.ix3 0 p d) =
    decoded (feats (a0 m c) (a1 m c) (a2 m c) ⟨t.val, t.isLt⟩ p) (fun f => a3 m c (ix2 f d)) (a4 m c (ix1 d)) (a5 m c (ix1 d)) := by
  obtain ⟨g1, g2⟩ := hg ⟨t.val, t.isLt⟩
  have e3 := iblk3_eq m c t
  have e0 := iblk0_eq m c t
  have e4 := iblk4_eq m c t
  have e5 := iblk5_eq m c t d
  have e6 := iblk6_eq m c t d
  have eW := ws_eq m c t
  have eL := len_eq m c t
  unfold outs7 runAt
  rw [e3]
  rw [run8 (ox := (a0 m c (ix2 ⟨t.val, t.isLt⟩ 0) : EReal).toReal) (oy := (a0 m c (ix2 ⟨t.val, t.isLt⟩ 1) : EReal).toReal)
    (ho := by rw [eL, tile_eq, e0, e0]; exact g1) (hf := by rw [eW, eL]; exact g2)]
  rw [eW, eL, e5, e6]
  simp only [e4]
  rfl

include hg in
theorem outs8_eq (f : Fin 96) (p : Fin 256) : outs8 m hf c t (ValueIdx.ix3 0 f p) =
    quant (feats (a0 m c) (a1 m c) (a2 m c) ⟨t.val, t.isLt⟩ p) f := by
  obtain ⟨g1, g2⟩ := hg ⟨t.val, t.isLt⟩
  have e3 := iblk3_eq m c t
  have e0 := iblk0_eq m c t
  have eW := ws_eq m c t
  have eL := len_eq m c t
  unfold outs8 runAt
  rw [e3]
  rw [run9 (ox := (a0 m c (ix2 ⟨t.val, t.isLt⟩ 0) : EReal).toReal) (oy := (a0 m c (ix2 ⟨t.val, t.isLt⟩ 1) : EReal).toReal)
    (ho := by rw [eL, tile_eq, e0, e0]; exact g1) (hf := by rw [eW, eL]; exact g2)]
  rw [eW, eL]
  rfl

include hg in
theorem outs9_eq (p : Fin 256) : outs9 m hf c t (ValueIdx.ix3 0 0 p) =
    scale (amax (feats (a0 m c) (a1 m c) (a2 m c) ⟨t.val, t.isLt⟩ p)) := by
  obtain ⟨g1, g2⟩ := hg ⟨t.val, t.isLt⟩
  have e3 := iblk3_eq m c t
  have e0 := iblk0_eq m c t
  have eW := ws_eq m c t
  have eL := len_eq m c t
  unfold outs9 runAt
  rw [e3]
  rw [run10 (ox := (a0 m c (ix2 ⟨t.val, t.isLt⟩ 0) : EReal).toReal) (oy := (a0 m c (ix2 ⟨t.val, t.isLt⟩ 1) : EReal).toReal)
    (ho := by rw [eL, tile_eq, e0, e0]; exact g1) (hf := by rw [eW, eL]; exact g2)]
  rw [eW, eL]
  rfl

end Cert.KernelIdeal.Arr
-- ==== Proof.RefHost.lean ====
module

public import proofs.«01_k».proof.Proof.Gen.ReferenceIdeal.Value
public import proofs.«01_k».proof.Proof.Spec

/-! # The reference's arrays before its last call: the words and the parameters -/

@[expose] public section

set_option maxRecDepth 65536

noncomputable section

namespace Cert.ReferenceIdeal.Host

open Cert.ReferenceIdeal Cert.ReferenceIdeal.Gen
open Idealize.ShloMosaic Idealize.ShloMosaic.TcCoe Idealize.SL Idealize.SL.Sem
open Idealize.ShloMosaic.StableHlo (after)
open Cert.Spec

/-- The gathered words by tile and slot. -/
def words (x : Vec Ideal S32x86016 .i32) : Vec Ideal S7x32x12288 .i32 :=
  shapeCast S7x32x12288 (transpose S7x32x48x8x2x16 [1, 0, 2, 4, 3, 5] (shapeCast S32x7x48x2x8x16 x shapeCasts_S32x86016_S32x7x48x2x8x16)
    transposes_S32x7x48x2x8x16_S7x32x48x8x2x16_1_0_2_4_3_5) shapeCasts_S7x32x48x8x2x16_S7x32x12288

theorem words_apply (x : Vec Ideal S32x86016 .i32) (t : Fin 7) (r : Fin 32) (k : Fin 12288) : words x (ValueIdx.ix3 t r k) = slotW x t r k := by
  unfold words
  pointwise
  unfold slotW
  have hc := col_lt k.val k.isLt
  refine congrArg x ?_
  refine congrArg₂ ix2 (Fin.ext ?_) (Fin.ext ?_)
  · show r.val = r.val % 32; omega
  · show t.val * 12288 + k.val / 256 * 256 + k.val / 16 % 2 * 128 + k.val / 32 % 8 * 16 + k.val % 16 = t.val * 12288 + col k.val % 12288
    rw [Nat.mod_eq_of_lt hc]
    unfold col
    omega

/-- The parameters as floats. -/
def params (x : Vec Ideal S32x86016 .i32) : Vec Ideal S7x7x12288 .f32 :=
  bitcastToFloat (F := Ideal) .f32 (extractStridedSlice S7x7x12288 ![0, 24, 0] (words x) slices_S7x32x12288_S7x7x12288_0_24_0)

theorem params_apply (x : Vec Ideal S32x86016 .i32) (t : Fin 7) (r : Fin 7) (k : Fin 12288) :
    params x (ValueIdx.ix3 t r k) = Ideal.ofBits .f32 (slotW x t (24 + r.val) k) := by
  have h := words_apply x t ⟨24 + r.val, by omega⟩ k
  rw [← h]
  unfold params
  generalize words x = y
  pointwise
  rfl

variable (W : Valuation τ sig (Elt Ideal))

theorem st0_v2 : after hostOps0 W main_v2 = words (W main_arg2) := by
  after_results
  rfl

theorem st0_v7 (t : Fin 7) (k : Fin 12288) : (after hostOps0 W main_v7 : Vec Ideal S7x1x12288 .f32) (ValueIdx.ix3 t 0 k)
    = Ideal.ofBits .f32 (slotW (W main_arg2) t 24 k) := by
  have h : after hostOps0 W main_v7 = broadcastInDim S7x1x12288 ![0, 2] bcast_S7x12288_S7x1x12288_0_2 (shapeCast S7x12288
      (extractStridedSlice S7x1x12288 ![0, 0, 0] (params (W main_arg2)) slices_S7x7x12288_S7x1x12288_0_0_0) shapeCasts_S7x1x12288_S7x12288) := by
    after_results
    rfl
  rw [h]
  refine Eq.trans ?_ (params_apply (W main_arg2) t 0 k)
  generalize params (W main_arg2) = y
  pointwise
  rfl

theorem st0_v10 (t : Fin 7) (k : Fin 12288) : (after hostOps0 W main_v10 : Vec Ideal S7x1x12288 .f32) (ValueIdx.ix3 t 0 k)
    = Ideal.ofBits .f32 (slotW (W main_arg2) t 25 k) := by
  have h : after hostOps0 W main_v10 = broadcastInDim S7x1x12288 ![0, 2] bcast_S7x12288_S7x1x12288_0_2 (shapeCast S7x12288
      (extractStridedSlice S7x1x12288 ![0, 1, 0] (params (W main_arg2)) slices_S7x7x12288_S7x1x12288_0_1_0) shapeCasts_S7x1x12288_S7x12288) := by
    after_results
    rfl
  rw [h]
  refine Eq.trans ?_ (params_apply (W main_arg2) t 1 k)
  generalize params (W main_arg2) = y
  pointwise
  rfl

theorem st0_v13 (t : Fin 7) (k : Fin 12288) : (after hostOps0 W main_v13 : Vec Ideal S7x1x12288 .f32) (ValueIdx.ix3 t 0 k)
    = Ideal.ofBits .f32 (slotW (W main_arg2) t 26 k) := by
  have h : after hostOps0 W main_v13 = broadcastInDim S7x1x12288 ![0, 2] bcast_S7x12288_S7x1x12288_0_2 (shapeCast S7x12288
      (extractStridedSlice S7x1x12288 ![0, 2, 0] (params (W main_arg2)) slices_S7x7x12288_S7x1x12288_0_2_0) shapeCasts_S7x1x12288_S7x12288) := by
    after_results
    rfl
  rw [h]
  refine Eq.trans ?_ (params_apply (W main_arg2) t 2 k)
  generalize params (W main_arg2) = y
  pointwise
  rfl

theorem st0_v16 (t : Fin 7) (k : Fin 12288) : (after hostOps0 W main_v16 : Vec Ideal S7x1x12288 .f32) (ValueIdx.ix3 t 0 k)
    = Ideal.ofBits .f32 (slotW (W main_arg2) t 27 k) := by
  have h : after hostOps0 W main_v16 = broadcastInDim S7x1x12288 ![0, 2] bcast_S7x12288_S7x1x12288_0_2 (shapeCast S7x12288
      (extractStridedSlice S7x1x12288 ![0, 3, 0] (params (W main_arg2)) slices_S7x7x12288_S7x1x12288_0_3_0) shapeCasts_S7x1x12288_S7x12288) := by
    after_results
    rfl
  rw [h]
  refine Eq.trans ?_ (params_apply (W main_arg2) t 3 k)
  generalize params (W main_arg2) = y
  pointwise
  rfl

theorem st0_v19 (t : Fin 7) (k : Fin 12288) : (after hostOps0 W main_v19 : Vec Ideal S7x1x12288 .f32) (ValueIdx.ix3 t 0 k)
    = Ideal.ofBits .f32 (slotW (W main_arg2) t 28 k) := by
  have h : after hostOps0 W main_v19 = broadcastInDim S7x1x12288 ![0, 2] bcast_S7x12288_S7x1x12288_0_2 (shapeCast S7x12288
      (extractStridedSlice S7x1x12288 ![0, 4, 0] (params (W main_arg2)) slices_S7x7x12288_S7x1x12288_0_4_0) shapeCasts_S7x1x12288_S7x12288) := by
    after_results
    rfl
  rw [h]
  refine Eq.trans ?_ (params_apply (W main_arg2) t 4 k)
  generalize params (W main_arg2) = y
  pointwise
  rfl

theorem st0_v22 (t : Fin 7) (k : Fin 12288) : (after hostOps0 W main_v22 : Vec Ideal S7x1x12288 .f32) (ValueIdx.ix3 t 0 k)
    = Ideal.ofBits .f32 (slotW (W main_arg2) t 29 k) := by
  have h : after hostOps0 W main_v22 = broadcastInDim S7x1x12288 ![0, 2] bcast_S7x12288_S7x1x12288_0_2 (shapeCast S7x12288
      (extractStridedSlice S7x1x12288 ![0, 5, 0] (params (W main_arg2)) slices_S7x7x12288_S7x1x12288_0_5_0) shapeCasts_S7x1x12288_S7x12288) := by
    after_results
    rfl
  rw [h]
  refine Eq.trans ?_ (params_apply (W main_arg2) t 5 k)
  generalize params (W main_arg2) = y
  pointwise
  rfl

theorem st0_v23 (t : Fin 7) (k : Fin 12288) : (after hostOps0 W main_v23 : Vec Ideal S7x1x12288 .f32) (ValueIdx.ix3 t 0 k)
    = Ideal.ofBits .f32 (slotW (W main_arg2) t 30 k) := by
  have h : after hostOps0 W main_v23 = extractStridedSlice S7x1x12288 ![0, 6, 0] (params (W main_arg2)) slices_S7x7x12288_S7x1x12288_0_6_0 := by
    after_results
    rfl
  rw [h]
  refine Eq.trans ?_ (params_apply (W main_arg2) t 6 k)
  generalize params (W main_arg2) = y
  pointwise
  rfl

theorem st0_v24 : after hostOps0 W main_v24 = iotaInDim S256 32 0 := by
  after_results
theorem st0_c : after hostOps0 W main_c = constantI S_ 32 16#32 := by
  after_results

end Cert.ReferenceIdeal.Host
-- ==== Proof.Cumsum.lean ====
module

public import Idealize.ShloMosaic.PureOps.Ideal
public import Idealize.ShloMosaic.Lib.Routing.OpsOne
public import Idealize.ShloMosaic.Lib.Pointwise

/-! # A running sum along the last axis, as a window of the whole length padded low -/

@[expose] public section

noncomputable section

namespace Cert.Cumsum

open Idealize.ShloMosaic

/-- A left fold of additions of reals adds up the reals. -/
theorem fold_add {ι : Type} (l : List ι) (G : ι → EReal) (h : ι → ℝ) (hG : ∀ a ∈ l, G a = (h a : EReal)) (z : ℝ) :
    l.foldl (fun r a => r + G a) (z : EReal) = ((z + (l.map h).sum : ℝ) : EReal) := by
  induction l generalizing z with
  | nil => simp
  | cons a l ih =>
    rw [List.foldl_cons, hG a (by simp), ← EReal.coe_add, ih (fun b hb => hG b (by simp [hb])), List.map_cons, List.sum_cons, add_assoc]

/-- The window of length `N` that ends at `j` holds the entries `0 … j`. -/
theorem window_sum (g : ℕ → ℝ) (M j : ℕ) (hj : j ≤ M) :
    ((List.range (M + 1)).map fun n => if M ≤ j + n then g (j + n - M) else 0).sum = ∑ i ∈ Finset.range (j + 1), g i := by
  obtain ⟨d, rfl⟩ : ∃ d, M = j + d := ⟨M - j, by omega⟩
  rw [← List.sum_toFinset _ List.nodup_range, List.toFinset_range, show j + d + 1 = d + (j + 1) by omega, Finset.sum_range_add]
  rw [Finset.sum_eq_zero (s := Finset.range d) (fun i hi => if_neg (by have := Finset.mem_range.1 hi; omega)), zero_add]
  refine Finset.sum_congr rfl fun i hi => ?_
  rw [if_pos (by omega)]
  congr 1
  omega

/-- The window's shape. -/
abbrev Win : Shape := ⟨3, ![1, 1, 12288]⟩

theorem win_numel : Win.numel = 12288 := by
  simp [Shape.numel, Fin.prod_univ_succ]

theorem win_last (n : Fin Win.numel) : (Win.rowMajor.symm n 2).val = n.val := by
  have h : (Win.rowMajor (Win.rowMajor.symm n)).val = (Win.rowMajor.symm n 0).val * 12288 + (Win.rowMajor.symm n 1).val * 12288 + (Win.rowMajor.symm n 2).val :=
    rowMajor_val3 (d := ![1, 1, 12288]) (Win.rowMajor.symm n) 12288 12288 rfl rfl
  have h2 : (Win.rowMajor (Win.rowMajor.symm n)).val = n.val := congrArg Fin.val (Equiv.apply_symm_apply _ _)
  rw [h] at h2
  have h0 : (Win.rowMajor.symm n 0).val < 1 := (Win.rowMajor.symm n 0).isLt
  have h1 : (Win.rowMajor.symm n 1).val < 1 := (Win.rowMajor.symm n 1).isLt
  generalize (Win.rowMajor.symm n 0).val = a at *
  generalize (Win.rowMajor.symm n 1).val = b at *
  omega

theorem reduceWindowAdd_eq {s t : Shape} {window strides lo hi : Fin s.rank → Nat} (x : FVec Ideal s .f32) (v : EReal) (h : s.ReduceWindows window strides lo hi t) :
    FloatOps.hostReduceWindowAdd (F := Ideal) (φ := .f32) window strides lo hi h .single x v
      = Host.reduceWindow (fun a b : EReal => a + b) window strides lo hi x (fun _ : (⟨0, ![]⟩ : Shape).Idx => v) h (by decide) := rfl

/-- The running sum of reals. -/
theorem cumsum (x : FVec Ideal ⟨3, ![7, 256, 12288]⟩ .f32) (init : FVec Ideal ⟨0, ![]⟩ .f32) (g : ℕ → ℝ) (t : Fin 7) (p : Fin 256)
    (hx : ∀ i : Fin 12288, x (ValueIdx.ix3 t p i) = (g i.val : EReal)) (hinit : ∀ i, init i = 0)
    (h : (⟨3, ![7, 256, 12288]⟩ : Shape).ReduceWindows (![1, 1, 12288] : Fin 3 → Nat) ![1, 1, 1] ![0, 0, 12287] ![0, 0, 0] ⟨3, ![7, 256, 12288]⟩)
    (hu : 0 < (⟨0, ![]⟩ : Shape).numel) (j : Fin 12288) :
    Host.reduceWindowAdd (F := Ideal) ![1, 1, 12288] ![1, 1, 1] ![0, 0, 12287] ![0, 0, 0] x init h hu (ValueIdx.ix3 t p j)
      = ((∑ i ∈ Finset.range (j.val + 1), g i : ℝ) : EReal) := by
  have hj := j.isLt
  have ht := t.isLt
  have hp := p.isLt
  refine (congrFun (reduceWindowAdd_eq x _ h) _).trans ?_
  unfold Host.reduceWindow
  have hz : init (Shape.Idx.first hu) = ((0 : ℝ) : EReal) := (hinit _).trans EReal.coe_zero.symm
  dsimp only
  refine (congrArg (fun z => List.foldl _ z _) hz).trans ((fold_add _ _ (fun n => if 12287 ≤ j.val + n.val then g (j.val + n.val - 12287) else 0) (fun n _ => ?_) 0).trans ?_)
  · have w0 : (Win.rowMajor.symm n 0).val = 0 := by have : (Win.rowMajor.symm n 0).val < 1 := (Win.rowMajor.symm n 0).isLt; omega
    have w1 : (Win.rowMajor.symm n 1).val = 0 := by have : (Win.rowMajor.symm n 1).val < 1 := (Win.rowMajor.symm n 1).isLt; omega
    have w2 := win_last n
    have hn : n.val < 12288 := by have := n.isLt; have := win_numel; omega
    split
    · next hin =>
      have h2 := hin 2
      change 12287 ≤ j.val * 1 + (Win.rowMajor.symm n 2).val ∧ j.val * 1 + (Win.rowMajor.symm n 2).val - 12287 < 12288 at h2
      rw [w2] at h2
      rw [if_pos (by omega)]
      refine (congrArg x (funext fun a => Fin.ext ?_)).trans (hx ⟨j.val + n.val - 12287, by omega⟩)
      match a with
      | ⟨0, _⟩ =>
        show t.val * 1 + (Win.rowMajor.symm n 0).val - 0 = t.val
        omega
      | ⟨1, _⟩ =>
        show p.val * 1 + (Win.rowMajor.symm n 1).val - 0 = p.val
        omega
      | ⟨2, _⟩ =>
        show j.val * 1 + (Win.rowMajor.symm n 2).val - 12287 = j.val + n.val - 12287
        omega
    · next hin =>
      rw [if_neg fun hle => hin fun a => by
        match a with
        | ⟨0, _⟩ =>
          show 0 ≤ t.val * 1 + (Win.rowMajor.symm n 0).val ∧ t.val * 1 + (Win.rowMajor.symm n 0).val - 0 < 7
          omega
        | ⟨1, _⟩ =>
          show 0 ≤ p.val * 1 + (Win.rowMajor.symm n 1).val ∧ p.val * 1 + (Win.rowMajor.symm n 1).val - 0 < 256
          omega
        | ⟨2, _⟩ =>
          show 12287 ≤ j.val * 1 + (Win.rowMajor.symm n 2).val ∧ j.val * 1 + (Win.rowMajor.symm n 2).val - 12287 < 12288
          omega]
      exact hz
  · refine congrArg (fun r : ℝ => (r : EReal)) ?_
    rw [zero_add]
    refine Eq.trans ?_ (window_sum g 12287 j.val (by omega))
    refine (congrArg List.sum (Routing.map_finRange_val _ fun n => if 12287 ≤ j.val + n then g (j.val + n - 12287) else 0)).trans ?_
    exact congrArg (fun M => ((List.range M).map fun n => if 12287 ≤ j.val + n then g (j.val + n - 12287) else 0).sum) win_numel

end Cert.Cumsum
-- ==== Proof.RefStage.lean ====
module

public import proofs.«01_k».proof.Proof.Gen.ReferenceIdeal.Value
public import proofs.«01_k».proof.Proof.Spec
public import proofs.«01_k».proof.Proof.Cumsum

/-! # The reference's arrays before its last call, stage by stage -/

@[expose] public section

set_option maxRecDepth 65536

noncomputable section

namespace Cert.ReferenceIdeal.Host

open Cert.ReferenceIdeal Cert.ReferenceIdeal.Gen
open Idealize.ShloMosaic Idealize.ShloMosaic.TcCoe Idealize.SL Idealize.SL.Sem
open Idealize.ShloMosaic.StableHlo (after)
open Cert.Blend

variable (W : Valuation τ sig (Elt Ideal))

/-- The remainder by sixteen. -/
theorem st1_v25 (hv : W main_v24 = iotaInDim S256 32 0) (hc : W main_c = constantI S_ 32 16#32) (p : Fin 256) :
    (after hostOps0_1 W main_v25 : Vec Ideal S256 .i32) (ix1 p) = BitVec.ofNat 32 (p.val % 16) := by
  after_results
  rw [hv, hc]
  revert p
  decide +kernel

theorem st2_c0 : after hostOps0_2 W main_c_0 = constantI S_ 32 16#32 := by
  after_results

/-- The quotient by sixteen. -/
theorem st3_v29 (hv : W main_v24 = iotaInDim S256 32 0) (hc : W main_c_0 = constantI S_ 32 16#32) (p : Fin 256) :
    (after hostOps0_3 W main_v29 : Vec Ideal S256 .i32) (ix1 p) = BitVec.ofNat 32 (p.val / 16) := by
  after_results
  rw [hv, hc]
  revert p
  decide +kernel

theorem half : Ideal.ofBits .f32 0x3F000000#32 = ((1 / 2 : ℝ) : EReal) := by
  show Ideal.ieee 8 23 0x3F000000#32 = _
  unfold Ideal.ieee
  dsimp only
  rw [if_neg (by decide), if_neg (by decide)]
  have h1 : ((0x3F000000#32).extractLsb' (8 + 23) 1 == 1#1) = false := by decide
  have h2 : ((0x3F000000#32).extractLsb' 23 8).toNat = 126 := by decide
  have h3 : ((0x3F000000#32).extractLsb' 0 23).toNat = 0 := by decide
  rw [h1, h2, h3]
  norm_num

theorem neg_half : Ideal.ofBits .f32 0xBF000000#32 = ((-1 / 2 : ℝ) : EReal) := by
  show Ideal.ieee 8 23 0xBF000000#32 = _
  unfold Ideal.ieee
  dsimp only
  rw [if_neg (by decide), if_neg (by decide)]
  have h1 : ((0xBF000000#32).extractLsb' (8 + 23) 1 == 1#1) = true := by decide
  have h2 : ((0xBF000000#32).extractLsb' 23 8).toNat = 126 := by decide
  have h3 : ((0xBF000000#32).extractLsb' 0 23).toNat = 0 := by decide
  rw [h1, h2, h3]
  norm_num

theorem small_int (n : ℕ) (h : n < 256) : (FloatOps.sitofp (F := Ideal) .f32 (BitVec.ofNat 32 n)) = ((n : ℝ) : EReal) := by
  show (((BitVec.ofNat 32 n).toInt : ℝ) : EReal) = _
  have h3 : (BitVec.ofNat 32 n).toInt = n := by
    rw [BitVec.toInt_eq_toNat_of_lt (by rw [BitVec.toNat_ofNat]; omega), BitVec.toNat_ofNat, Nat.mod_eq_of_lt (by omega)]
  rw [h3, Int.cast_natCast]

theorem st2_v28 (p : Fin 256) (n : ℕ) (hn : n < 256) (h : (W main_v25 : Vec Ideal S256 .i32) (ix1 p) = BitVec.ofNat 32 n) :
    (after hostOps0_2 W main_v28 : Vec Ideal S256 .f32) (ix1 p) = ((n + 1 / 2 : ℝ) : EReal) := by
  after_results
  pointwise
  rw [h, small_int n hn, half, ← EReal.coe_add]

/-- Whether a slot lies below the length. -/
theorem st4_v75 (t : Fin 7) (k : Fin 12288) :
    (after hostOps0_4 W main_v75 : Vec Ideal S7x1x12288 .i1) (ValueIdx.ix3 t 0 k) = if (k.val : ℤ) < ((W main_arg1 : Vec Ideal S7 .i32) (ix1 t) : BitVec 32).toInt then 1#1 else 0#1 := by
  after_results
  pointwise
  have hk := k.isLt
  show BitVec.ofBool (BitVec.slt (BitVec.ofNat 32 k.val) ((W main_arg1 : Vec Ideal S7 .i32) (ix1 t) : BitVec 32)) = _
  have h3 : (BitVec.ofNat 32 k.val).toInt = k.val := by
    rw [BitVec.toInt_eq_toNat_of_lt (by rw [BitVec.toNat_ofNat]; omega), BitVec.toNat_ofNat, Nat.mod_eq_of_lt (by omega)]
  rw [BitVec.slt_eq_decide, h3]
  split
  · next h => rw [decide_eq_true h]; rfl
  · next h => rw [decide_eq_false h]; rfl

theorem st4_cst4 : after hostOps0_4 W main_cst_4 = constant (F := Ideal) S_ .f32 0x00000000#32 := by
  after_results

/-- The opacity as the reference writes it. -/
def opacity (px py ox oy mx my a b c op : EReal) : EReal :=
  min (Ideal.ofBits .f32 0x3F7D70A4#32) (op * Ideal.exp (Ideal.ofBits .f32 0xBF000000#32 * (a * (px + ox - mx) * (px + ox - mx) + c * (py + oy - my) * (py + oy - my))
    - b * (px + ox - mx) * (py + oy - my)))

theorem opacity_coe (px py ox oy mx my a b c op : ℝ) :
    opacity px py ox oy mx my a b c op = ((min cap (op * Real.exp (gauss ox oy px py mx my a b c)) : ℝ) : EReal) := by
  unfold opacity gauss
  rw [cap_coe, neg_half]
  simp only [← EReal.coe_add, ← EReal.coe_sub, ← EReal.coe_mul]
  have : ∀ r : ℝ, Ideal.exp (r : EReal) = (Real.exp r : EReal) := fun _ => rfl
  rw [this, ← EReal.coe_mul, ← EReal.coe_strictMono.monotone.map_min]

theorem st4_v68 (t : Fin 7) (p : Fin 256) (k : Fin 12288) :
    (after hostOps0_4 W main_v68 : Vec Ideal S7x256x12288 .f32) (ValueIdx.ix3 t p k)
      = opacity ((W main_v28 : Vec Ideal S256 .f32) (ix1 p)) (FloatOps.sitofp (F := Ideal) .f32 ((W main_v29 : Vec Ideal S256 .i32) (ix1 p)) + Ideal.ofBits .f32 0x3F000000#32)
        ((W main_arg0 : Vec Ideal S7x2 .f32) (ix2 t 0)) ((W main_arg0 : Vec Ideal S7x2 .f32) (ix2 t 1))
        ((W main_v7 : Vec Ideal S7x1x12288 .f32) (ValueIdx.ix3 t 0 k)) ((W main_v10 : Vec Ideal S7x1x12288 .f32) (ValueIdx.ix3 t 0 k))
        ((W main_v13 : Vec Ideal S7x1x12288 .f32) (ValueIdx.ix3 t 0 k)) ((W main_v16 : Vec Ideal S7x1x12288 .f32) (ValueIdx.ix3 t 0 k))
        ((W main_v19 : Vec Ideal S7x1x12288 .f32) (ValueIdx.ix3 t 0 k)) ((W main_v22 : Vec Ideal S7x1x12288 .f32) (ValueIdx.ix3 t 0 k)) := by
  after_results
  pointwise
  rfl

theorem st5_v76 (t : Fin 7) (p : Fin 256) (k : Fin 12288) (hz : W main_cst_4 = constant (F := Ideal) S_ .f32 0x00000000#32) :
    (after hostOps0_5 W main_v76 : Vec Ideal S7x256x12288 .f32) (ValueIdx.ix3 t p k)
      = if ((W main_v75 : Vec Ideal S7x1x12288 .i1) (ValueIdx.ix3 t 0 k) : BitVec 1) = 1#1 then (W main_v68 : Vec Ideal S7x256x12288 .f32) (ValueIdx.ix3 t p k) else (0 : EReal) := by
  have h : after hostOps0_5 W main_v76 = select (broadcastInDim S7x256x12288 ![0, 1, 2] bcast_S7x1x12288_S7x256x12288_0_1_2 (W main_v75 : Vec Ideal S7x1x12288 .i1))
      (W main_v68 : Vec Ideal S7x256x12288 .f32) (broadcastInDim S7x256x12288 ![] bcast_S_S7x256x12288 (W main_cst_4 : Vec Ideal S_ .f32)) := by
    after_results
    rfl
  rw [h, hz]
  pointwise
  rfl

theorem st6_v78 (t : Fin 7) (p : Fin 256) (k : Fin 12288) (a : ℝ) (ha : a < 1) (h : (W main_v76 : Vec Ideal S7x256x12288 .f32) (ValueIdx.ix3 t p k) = (a : EReal)) :
    (after hostOps0_6 W main_v78 : Vec Ideal S7x256x12288 .f32) (ValueIdx.ix3 t p k) = (Real.log (1 + -a) : EReal) := by
  after_results
  pointwise
  rw [h]
  have h1 : (1 : EReal) + -(a : EReal) = ((1 + -a : ℝ) : EReal) := by rw [EReal.coe_add, EReal.coe_neg]; rfl
  unfold Ideal.log1p
  rw [h1]
  show (if 1 + -a ≤ 0 then (⊥ : EReal) else (Real.log (1 + -a) : EReal)) = _
  rw [if_neg (by linarith)]

theorem st7_v79 (t : Fin 7) (p : Fin 256) (g : ℕ → ℝ) (h : ∀ i : Fin 12288, (W main_v78 : Vec Ideal S7x256x12288 .f32) (ValueIdx.ix3 t p i) = (g i.val : EReal)) (k : Fin 12288) :
    (after hostOps0_7 W main_v79 : Vec Ideal S7x256x12288 .f32) (ValueIdx.ix3 t p k) = ((∑ i ∈ Finset.range (k.val + 1), g i : ℝ) : EReal) := by
  have h' : after hostOps0_7 W main_v79 = Host.reduceWindowAdd (F := Ideal) ![1, 1, 12288] ![1, 1, 1] ![0, 0, 12287] ![0, 0, 0] (W main_v78 : Vec Ideal S7x256x12288 .f32)
      (broadcastInDim S_ ![] bcast_S_S_ (constant (F := Ideal) S_ .f32 0x00000000#32)) reduceWindows_S7x256x12288_S7x256x12288_w1s1p0_0_w1s1p0_0_w12288s1p12287_0 h_S_ := by
    after_results
    rfl
  rw [h']
  exact Cumsum.cumsum _ _ g t p h (fun _ => Ideal.ofBits_zero_f32) _ _ k

theorem st8_v83 (t : Fin 7) (p : Fin 256) (k : Fin 12288) (a : ℕ → ℝ) (ha : ∀ i, a i < 1)
    (h1 : (W main_v76 : Vec Ideal S7x256x12288 .f32) (ValueIdx.ix3 t p k) = (a k.val : EReal))
    (h2 : (W main_v78 : Vec Ideal S7x256x12288 .f32) (ValueIdx.ix3 t p k) = (Real.log (1 + -a k.val) : EReal))
    (h3 : (W main_v79 : Vec Ideal S7x256x12288 .f32) (ValueIdx.ix3 t p k) = ((∑ i ∈ Finset.range (k.val + 1), Real.log (1 + -a i) : ℝ) : EReal)) :
    (after hostOps0_8 W main_v83 : Vec Ideal S7x256x12288 .bf16) (ValueIdx.ix3 t p k) = ((a k.val * trans a k.val : ℝ) : EReal) := by
  after_results
  pointwise
  rw [h1, h2, h3, ← EReal.coe_sub]
  have : ∀ r : ℝ, Ideal.exp (r : EReal) = (Real.exp r : EReal) := fun _ => rfl
  rw [this, exp_cumsum a ha, ← EReal.coe_mul]

theorem st8_v84 (t : Fin 7) (r : Fin 24) (k : Fin 12288) :
    (after hostOps0_8 W main_v84 : Vec Ideal S7x24x12288 .i32) (ValueIdx.ix3 t r k) = (W main_v2 : Vec Ideal S7x32x12288 .i32) (ValueIdx.ix3 t ⟨r.val, by omega⟩ k) := by
  after_results
  pointwise
  rfl

theorem st8_v85 (d : Fin 512) : (after hostOps0_8 W main_v85 : Vec Ideal S1x512 .f32) (ix2 0 d) = (W main_arg4 : Vec Ideal S512 .f32) (ix1 d) := by
  after_results
  pointwise

theorem st8_v86 (d : Fin 512) : (after hostOps0_8 W main_v86 : Vec Ideal S1x512 .f32) (ix2 0 d) = (W main_arg5 : Vec Ideal S512 .f32) (ix1 d) := by
  after_results
  pointwise

end Cert.ReferenceIdeal.Host
-- ==== Proof.RefPrep.lean ====
module

public import proofs.«01_k».proof.Proof.RefHost
public import proofs.«01_k».proof.Proof.RefStage

/-! # The reference's arrays before its last call

The stages put together: the weights are opacity times transmittance. -/

@[expose] public section

set_option maxRecDepth 65536

noncomputable section

namespace Cert.ReferenceIdeal.Host

open Cert.ReferenceIdeal Cert.ReferenceIdeal.Gen
open Idealize.ShloMosaic Idealize.ShloMosaic.TcCoe Idealize.SL Idealize.SL.Sem
open Idealize.ShloMosaic.StableHlo (after after_nil after_cons)
open Cert.Blend Cert.Spec

theorem after_app (l₁ l₂ : List (HloOp τ sig (Elt Ideal))) (W : Valuation τ sig (Elt Ideal)) : after (l₁ ++ l₂) W = after l₂ (after l₁ W) := by
  induction l₁ generalizing W with
  | nil => rfl
  | cons o l ih => exact ih _

variable (W : Valuation τ sig (Elt Ideal))

theorem keep1_v2 : after hostOps0_1 W main_v2 = W main_v2 := by after_results
theorem keep2_v2 : after hostOps0_2 W main_v2 = W main_v2 := by after_results
theorem keep3_v2 : after hostOps0_3 W main_v2 = W main_v2 := by after_results
theorem keep4_v2 : after hostOps0_4 W main_v2 = W main_v2 := by after_results
theorem keep5_v2 : after hostOps0_5 W main_v2 = W main_v2 := by after_results
theorem keep6_v2 : after hostOps0_6 W main_v2 = W main_v2 := by after_results
theorem keep7_v2 : after hostOps0_7 W main_v2 = W main_v2 := by after_results
theorem keep1_v23 : after hostOps0_1 W main_v23 = W main_v23 := by after_results
theorem keep2_v23 : after hostOps0_2 W main_v23 = W main_v23 := by after_results
theorem keep3_v23 : after hostOps0_3 W main_v23 = W main_v23 := by after_results
theorem keep4_v23 : after hostOps0_4 W main_v23 = W main_v23 := by after_results
theorem keep5_v23 : after hostOps0_5 W main_v23 = W main_v23 := by after_results
theorem keep6_v23 : after hostOps0_6 W main_v23 = W main_v23 := by after_results
theorem keep7_v23 : after hostOps0_7 W main_v23 = W main_v23 := by after_results
theorem keep8_v23 : after hostOps0_8 W main_v23 = W main_v23 := by after_results
theorem keep1_v7 : after hostOps0_1 W main_v7 = W main_v7 := by after_results
theorem keep2_v7 : after hostOps0_2 W main_v7 = W main_v7 := by after_results
theorem keep3_v7 : after hostOps0_3 W main_v7 = W main_v7 := by after_results
theorem keep1_v10 : after hostOps0_1 W main_v10 = W main_v10 := by after_results
theorem keep2_v10 : after hostOps0_2 W main_v10 = W main_v10 := by after_results
theorem keep3_v10 : after hostOps0_3 W main_v10 = W main_v10 := by after_results
theorem keep1_v13 : after hostOps0_1 W main_v13 = W main_v13 := by after_results
theorem keep2_v13 : after hostOps0_2 W main_v13 = W main_v13 := by after_results
theorem keep3_v13 : after hostOps0_3 W main_v13 = W main_v13 := by after_results
theorem keep1_v16 : after hostOps0_1 W main_v16 = W main_v16 := by after_results
theorem keep2_v16 : after hostOps0_2 W main_v16 = W main_v16 := by after_results
theorem keep3_v16 : after hostOps0_3 W main_v16 = W main_v16 := by after_results
theorem keep1_v19 : after hostOps0_1 W main_v19 = W main_v19 := by after_results
theorem keep2_v19 : after hostOps0_2 W main_v19 = W main_v19 := by after_results
theorem keep3_v19 : after hostOps0_3 W main_v19 = W main_v19 := by after_results
theorem keep1_v22 : after hostOps0_1 W main_v22 = W main_v22 := by after_results
theorem keep2_v22 : after hostOps0_2 W main_v22 = W main_v22 := by after_results
theorem keep3_v22 : after hostOps0_3 W main_v22 = W main_v22 := by after_results
theorem keep1_v24 : after hostOps0_1 W main_v24 = W main_v24 := by after_results
theorem keep2_v24 : after hostOps0_2 W main_v24 = W main_v24 := by after_results
theorem keep3_v28 : after hostOps0_3 W main_v28 = W main_v28 := by after_results
theorem keep0_arg0 : after hostOps0 W main_arg0 = W main_arg0 := by after_results
theorem keep1_arg0 : after hostOps0_1 W main_arg0 = W main_arg0 := by after_results
theorem keep2_arg0 : after hostOps0_2 W main_arg0 = W main_arg0 := by after_results
theorem keep3_arg0 : after hostOps0_3 W main_arg0 = W main_arg0 := by after_results
theorem keep0_arg1 : after hostOps0 W main_arg1 = W main_arg1 := by after_results
theorem keep1_arg1 : after hostOps0_1 W main_arg1 = W main_arg1 := by after_results
theorem keep2_arg1 : after hostOps0_2 W main_arg1 = W main_arg1 := by after_results
theorem keep3_arg1 : after hostOps0_3 W main_arg1 = W main_arg1 := by after_results
theorem keep0_arg3 : after hostOps0 W main_arg3 = W main_arg3 := by after_results
theorem keep1_arg3 : after hostOps0_1 W main_arg3 = W main_arg3 := by after_results
theorem keep2_arg3 : after hostOps0_2 W main_arg3 = W main_arg3 := by after_results
theorem keep3_arg3 : after hostOps0_3 W main_arg3 = W main_arg3 := by after_results
theorem keep4_arg3 : after hostOps0_4 W main_arg3 = W main_arg3 := by after_results
theorem keep5_arg3 : after hostOps0_5 W main_arg3 = W main_arg3 := by after_results
theorem keep6_arg3 : after hostOps0_6 W main_arg3 = W main_arg3 := by after_results
theorem keep7_arg3 : after hostOps0_7 W main_arg3 = W main_arg3 := by after_results
theorem keep8_arg3 : after hostOps0_8 W main_arg3 = W main_arg3 := by after_results
theorem keep0_arg4 : after hostOps0 W main_arg4 = W main_arg4 := by after_results
theorem keep1_arg4 : after hostOps0_1 W main_arg4 = W main_arg4 := by after_results
theorem keep2_arg4 : after hostOps0_2 W main_arg4 = W main_arg4 := by after_results
theorem keep3_arg4 : after hostOps0_3 W main_arg4 = W main_arg4 := by after_results
theorem keep4_arg4 : after hostOps0_4 W main_arg4 = W main_arg4 := by after_results
theorem keep5_arg4 : after hostOps0_5 W main_arg4 = W main_arg4 := by after_results
theorem keep6_arg4 : after hostOps0_6 W main_arg4 = W main_arg4 := by after_results
theorem keep7_arg4 : after hostOps0_7 W main_arg4 = W main_arg4 := by after_results
theorem keep0_arg5 : after hostOps0 W main_arg5 = W main_arg5 := by after_results
theorem keep1_arg5 : after hostOps0_1 W main_arg5 = W main_arg5 := by after_results
theorem keep2_arg5 : after hostOps0_2 W main_arg5 = W main_arg5 := by after_results
theorem keep3_arg5 : after hostOps0_3 W main_arg5 = W main_arg5 := by after_results
theorem keep4_arg5 : after hostOps0_4 W main_arg5 = W main_arg5 := by after_results
theorem keep5_arg5 : after hostOps0_5 W main_arg5 = W main_arg5 := by after_results
theorem keep6_arg5 : after hostOps0_6 W main_arg5 = W main_arg5 := by after_results
theorem keep7_arg5 : after hostOps0_7 W main_arg5 = W main_arg5 := by after_results
theorem keep6_v76 : after hostOps0_6 W main_v76 = W main_v76 := by after_results
theorem keep7_v76 : after hostOps0_7 W main_v76 = W main_v76 := by after_results
theorem keep7_v78 : after hostOps0_7 W main_v78 = W main_v78 := by after_results

/-- The arrays after stage 0. -/
def st0 : Valuation τ sig (Elt Ideal) := after hostOps0 W
/-- The arrays after stage 1. -/
def st1 : Valuation τ sig (Elt Ideal) := after hostOps0_1 (st0 W)
/-- The arrays after stage 2. -/
def st2 : Valuation τ sig (Elt Ideal) := after hostOps0_2 (st1 W)
/-- The arrays after stage 3. -/
def st3 : Valuation τ sig (Elt Ideal) := after hostOps0_3 (st2 W)
/-- The arrays after stage 4. -/
def st4 : Valuation τ sig (Elt Ideal) := after hostOps0_4 (st3 W)
/-- The arrays after stage 5. -/
def st5 : Valuation τ sig (Elt Ideal) := after hostOps0_5 (st4 W)
/-- The arrays after stage 6. -/
def st6 : Valuation τ sig (Elt Ideal) := after hostOps0_6 (st5 W)
/-- The arrays after stage 7. -/
def st7 : Valuation τ sig (Elt Ideal) := after hostOps0_7 (st6 W)
/-- The arrays after stage 8. -/
def st8 : Valuation τ sig (Elt Ideal) := after hostOps0_8 (st7 W)

theorem flat : after (List.flatten [hostOps0, hostOps0_1, hostOps0_2, hostOps0_3, hostOps0_4, hostOps0_5, hostOps0_6, hostOps0_7, hostOps0_8]) W = st8 W := by
  simp only [List.flatten_cons, List.flatten_nil, after_app, List.append_nil]
  rfl

theorem at7_v2 : st7 W main_v2 = st0 W main_v2 := ((keep7_v2 _).trans ((keep6_v2 _).trans ((keep5_v2 _).trans ((keep4_v2 _).trans ((keep3_v2 _).trans ((keep2_v2 _).trans (keep1_v2 _)))))))
theorem at8_v23 : st8 W main_v23 = st0 W main_v23 := ((keep8_v23 _).trans ((keep7_v23 _).trans ((keep6_v23 _).trans ((keep5_v23 _).trans ((keep4_v23 _).trans ((keep3_v23 _).trans ((keep2_v23 _).trans (keep1_v23 _))))))))
theorem at3_v7 : st3 W main_v7 = st0 W main_v7 := ((keep3_v7 _).trans ((keep2_v7 _).trans (keep1_v7 _)))
theorem at3_v10 : st3 W main_v10 = st0 W main_v10 := ((keep3_v10 _).trans ((keep2_v10 _).trans (keep1_v10 _)))
theorem at3_v13 : st3 W main_v13 = st0 W main_v13 := ((keep3_v13 _).trans ((keep2_v13 _).trans (keep1_v13 _)))
theorem at3_v16 : st3 W main_v16 = st0 W main_v16 := ((keep3_v16 _).trans ((keep2_v16 _).trans (keep1_v16 _)))
theorem at3_v19 : st3 W main_v19 = st0 W main_v19 := ((keep3_v19 _).trans ((keep2_v19 _).trans (keep1_v19 _)))
theorem at3_v22 : st3 W main_v22 = st0 W main_v22 := ((keep3_v22 _).trans ((keep2_v22 _).trans (keep1_v22 _)))
theorem at2_v24 : st2 W main_v24 = st0 W main_v24 := ((keep2_v24 _).trans (keep1_v24 _))
theorem at3_v28 : st3 W main_v28 = st2 W main_v28 := (keep3_v28 _)
theorem at3_arg0 : st3 W main_arg0 = W main_arg0 := ((keep3_arg0 _).trans ((keep2_arg0 _).trans ((keep1_arg0 _).trans (keep0_arg0 _))))
theorem at3_arg1 : st3 W main_arg1 = W main_arg1 := ((keep3_arg1 _).trans ((keep2_arg1 _).trans ((keep1_arg1 _).trans (keep0_arg1 _))))
theorem at8_arg3 : st8 W main_arg3 = W main_arg3 := ((keep8_arg3 _).trans ((keep7_arg3 _).trans ((keep6_arg3 _).trans ((keep5_arg3 _).trans ((keep4_arg3 _).trans ((keep3_arg3 _).trans ((keep2_arg3 _).trans ((keep1_arg3 _).trans (keep0_arg3 _)))))))))
theorem at7_arg4 : st7 W main_arg4 = W main_arg4 := ((keep7_arg4 _).trans ((keep6_arg4 _).trans ((keep5_arg4 _).trans ((keep4_arg4 _).trans ((keep3_arg4 _).trans ((keep2_arg4 _).trans ((keep1_arg4 _).trans (keep0_arg4 _))))))))
theorem at7_arg5 : st7 W main_arg5 = W main_arg5 := ((keep7_arg5 _).trans ((keep6_arg5 _).trans ((keep5_arg5 _).trans ((keep4_arg5 _).trans ((keep3_arg5 _).trans ((keep2_arg5 _).trans ((keep1_arg5 _).trans (keep0_arg5 _))))))))
theorem at7_v76 : st7 W main_v76 = st5 W main_v76 := ((keep7_v76 _).trans (keep6_v76 _))
theorem at7_v78 : st7 W main_v78 = st6 W main_v78 := (keep7_v78 _)

theorem px_eq (p : Fin 256) : (st3 W main_v28 : Vec Ideal S256 .f32) (ix1 p) = ((((p.val % 16 : ℕ) : ℝ) + 1 / 2 : ℝ) : EReal) :=
  (congrFun (at3_v28 W) _).trans (st2_v28 (st1 W) p (p.val % 16) (by omega) (st1_v25 (st0 W) (st0_v24 W) (st0_c W) p))

theorem py_eq (p : Fin 256) : FloatOps.sitofp (F := Ideal) .f32 ((st3 W main_v29 : Vec Ideal S256 .i32) (ix1 p)) + Ideal.ofBits .f32 0x3F000000#32
    = ((((p.val / 16 : ℕ) : ℝ) + 1 / 2 : ℝ) : EReal) := by
  have hp := p.isLt
  have h : (st3 W main_v29 : Vec Ideal S256 .i32) (ix1 p) = BitVec.ofNat 32 (p.val / 16) :=
    st3_v29 (st2 W) ((at2_v24 W).trans (st0_v24 W)) (st2_c0 (st1 W)) p
  rw [h, small_int _ (by omega), half, ← EReal.coe_add]

/-- The opacities of a tile. -/
abbrev alphaOf (t : Fin 7) (p : Fin 256) (i : ℕ) : ℝ :=
  alpha (slotW (W main_arg2) t) ((W main_arg1 : Vec Ideal S7 .i32) (ix1 t)) ((W main_arg0 : Vec Ideal S7x2 .f32) (ix2 t 0) : EReal).toReal
    ((W main_arg0 : Vec Ideal S7x2 .f32) (ix2 t 1) : EReal).toReal i p

variable (hg : Good (W main_arg0) (W main_arg1) (W main_arg2))
include hg

theorem alpha_eq (t : Fin 7) (p : Fin 256) (k : Fin 12288) : (st5 W main_v76 : Vec Ideal S7x256x12288 .f32) (ValueIdx.ix3 t p k) = (alphaOf W t p k.val : EReal) := by
  refine (st5_v76 (st4 W) t p k (st4_cst4 _)).trans ?_
  have hl : (st4 W main_v75 : Vec Ideal S7x1x12288 .i1) (ValueIdx.ix3 t 0 k) = if (k.val : ℤ) < ((W main_arg1 : Vec Ideal S7 .i32) (ix1 t) : BitVec 32).toInt then 1#1 else 0#1 := by
    refine (st4_v75 (st3 W) t k).trans ?_
    rw [at3_arg1]
  rw [hl]
  unfold alphaOf alpha
  by_cases h : (k.val : ℤ) < ((W main_arg1 : Vec Ideal S7 .i32) (ix1 t) : BitVec 32).toInt
  · rw [if_pos h, if_pos rfl, if_pos h]
    have hpos : 0 < ((W main_arg1 : Vec Ideal S7 .i32) (ix1 t) : BitVec 32).toInt := by omega
    obtain ⟨ho, hf⟩ := hg t
    obtain ⟨h0, h1⟩ := ho hpos
    have fin := fun r a b => ofBits_real _ (hf r a b k.val k.isLt h)
    refine (st4_v68 (st3 W) t p k).trans ?_
    rw [px_eq W p, py_eq W p, at3_arg0, at3_v7, at3_v10, at3_v13, at3_v16, at3_v19, at3_v22]
    have e7 := (st0_v7 W t k).trans (fin 24 (by norm_num) (by norm_num))
    have e10 := (st0_v10 W t k).trans (fin 25 (by norm_num) (by norm_num))
    have e13 := (st0_v13 W t k).trans (fin 26 (by norm_num) (by norm_num))
    have e16 := (st0_v16 W t k).trans (fin 27 (by norm_num) (by norm_num))
    have e19 := (st0_v19 W t k).trans (fin 28 (by norm_num) (by norm_num))
    have e22 := (st0_v22 W t k).trans (fin 29 (by norm_num) (by norm_num))
    unfold st0
    rw [e7, e10, e13, e16, e19, e22, h0, h1, opacity_coe]
    simp only [EReal.toReal_coe]
  · rw [if_neg h, if_neg (show ¬(0#1 : BitVec 1) = 1#1 by decide), if_neg h, EReal.coe_zero]

theorem log_eq (t : Fin 7) (p : Fin 256) (k : Fin 12288) : (st6 W main_v78 : Vec Ideal S7x256x12288 .f32) (ValueIdx.ix3 t p k) = (Real.log (1 + -alphaOf W t p k.val) : EReal) :=
  st6_v78 (st5 W) t p k _ (alpha_lt ..) (alpha_eq W hg t p k)

/-- The weights of a tile. -/
theorem weight_eq (t : Fin 7) (p : Fin 256) (k : Fin 12288) :
    (st8 W main_v83 : Vec Ideal S7x256x12288 .bf16) (ValueIdx.ix3 t p k) = ((alphaOf W t p k.val * trans (alphaOf W t p) k.val : ℝ) : EReal) :=
  st8_v83 (st7 W) t p k (alphaOf W t p) (fun i => alpha_lt ..) ((congrFun (at7_v76 W) _).trans (alpha_eq W hg t p k))
    ((congrFun (at7_v78 W) _).trans (log_eq W hg t p k)) (st7_v79 (st6 W) t p (fun i => Real.log (1 + -alphaOf W t p i)) (fun i => log_eq W hg t p i) k)

omit hg

theorem words_eq (t : Fin 7) (r : Fin 24) (k : Fin 12288) : (st8 W main_v84 : Vec Ideal S7x24x12288 .i32) (ValueIdx.ix3 t r k) = slotW (W main_arg2) t r.val k.val := by
  refine (st8_v84 (st7 W) t r k).trans ?_
  rw [at7_v2]
  exact (congrFun (st0_v2 W) _).trans (words_apply _ t ⟨r.val, by omega⟩ k)

theorem fs_eq (t : Fin 7) (k : Fin 12288) : (st8 W main_v23 : Vec Ideal S7x1x12288 .f32) (ValueIdx.ix3 t 0 k) = Ideal.ofBits .f32 (slotW (W main_arg2) t 30 k.val) :=
  (congrFun (at8_v23 W) _).trans (st0_v23 W t k)

theorem scale_eq (d : Fin 512) : (st8 W main_v85 : Vec Ideal S1x512 .f32) (ix2 0 d) = (W main_arg4 : Vec Ideal S512 .f32) (ix1 d) := by
  refine (st8_v85 (st7 W) d).trans ?_
  rw [at7_arg4]

theorem bias_eq (d : Fin 512) : (st8 W main_v86 : Vec Ideal S1x512 .f32) (ix2 0 d) = (W main_arg5 : Vec Ideal S512 .f32) (ix1 d) := by
  refine (st8_v86 (st7 W) d).trans ?_
  rw [at7_arg5]

end Cert.ReferenceIdeal.Host
-- ==== Proof.RefPay.lean ====
module

public import proofs.«01_k».proof.Proof.Gen.ReferenceIdeal.Value
public import proofs.«01_k».proof.Proof.Spec
public import Idealize.ShloMosaic.Lib.BitcastPair

/-! # The reference's last call: its values from the words, the feature scales and the weights -/

@[expose] public section

set_option maxRecDepth 65536

noncomputable section

namespace Cert.ReferenceIdeal.Pay

open Cert.ReferenceIdeal Cert.ReferenceIdeal.Gen
open Idealize.ShloMosaic Idealize.ShloMosaic.TcCoe Idealize.SL Idealize.SL.Sem
open Cert.Blend Cert.Decode

/-- Four bytes to a word, the lowest in the first row. -/
theorem bytes_apply (x : IVec S7x24x12288 32) (t : Fin 7) (f : Fin 96) (k : Fin 12288) :
    bitcast S7x96x12288 8 x bitcasts_S7x24x12288_w32_S7x96x12288_w8 (ValueIdx.ix3 t f k) = byteOf (x (ValueIdx.ix3 t ⟨f.val / 4, by omega⟩ k)) (f.val % 4) := by
  apply BitVec.eq_of_getLsbD_eq
  intro q hq
  rw [bitcast_getLsbD x _ _ q hq (by norm_num)]
  unfold byteOf
  rw [BitVec.getLsbD_extractLsb']
  have hrow : Shape.row S7x96x12288 (ValueIdx.ix3 t f k) = f.val := rfl
  have e1 : (Shape.row S7x96x12288 (ValueIdx.ix3 t f k) * 8 + q) / 32 = f.val / 4 := by rw [hrow]; omega
  have e2 : (Shape.row S7x96x12288 (ValueIdx.ix3 t f k) * 8 + q) % 32 = 8 * (f.val % 4) + q := by rw [hrow]; omega
  rw [e2]
  simp only [hq, decide_true, Bool.true_and]
  congr 1
  refine congrArg x (funext fun a => Fin.ext ?_)
  match a with
  | ⟨0, _⟩ => exact Shape.Bitcasts.srcIdx_other _ _ _ _ _ (by show ¬ 0 + 2 = 3; decide)
  | ⟨1, _⟩ => exact (Shape.Bitcasts.srcIdx_row _ _ _ _ _ rfl).trans e1
  | ⟨2, _⟩ => exact Shape.Bitcasts.srcIdx_other _ _ _ _ _ (by show ¬ 2 + 2 = 3; decide)

variable (v0 : Vec Ideal S7x24x12288 .i32) (v4 : Vec Ideal S7x1x12288 .f32) (v9 : Vec Ideal S7x256x12288 .bf16)

/-- The features: bytes times scale times weight, over the slots. -/
theorem pay5 (t : Fin 7) (p : Fin 256) (f : Fin 96) : k0_pay5 v0 v4 v9 (ValueIdx.ix3 t p f) =
    ∑ k : Fin 12288, v9 (ValueIdx.ix3 t p k) * (Ideal.ofBits .fp8e4m3 (byteOf (v0 (ValueIdx.ix3 t ⟨f.val / 4, by omega⟩ k)) (f.val % 4)) * v4 (ValueIdx.ix3 t 0 k)) := by
  have hb := fun k => bytes_apply v0 t f k
  have h1 : shapeCast S7x24x12288 v0 shapeCasts_S7x24x12288_S7x24x12288 = v0 := shapeCast_self _ _
  unfold k0_pay5
  rw [h1]
  generalize bitcast S7x96x12288 8 v0 bitcasts_S7x24x12288_w32_S7x96x12288_w8 = y at hb ⊢
  pointwise
  refine Finset.sum_congr rfl fun k _ => ?_
  rw [← hb k]
  rfl

/-- The features of a pixel. -/
def feat (V : FVec Ideal S7x256x96 .f32) (t : Fin 7) (p : Fin 256) : Fin 96 → EReal := fun f => V (ValueIdx.ix3 t p f)

theorem pay6 (t : Fin 7) (p : Fin 256) : k0_pay6 v0 v4 v9 (ValueIdx.ix3 t p 0) = rexpo (amax (feat (k0_pay5 v0 v4 v9) t p)) := by
  unfold k0_pay6
  generalize k0_pay5 v0 v4 v9 = V
  pointwise
  rw [fold_sup]
  have ha : Finset.univ.sup (fun x : Fin 96 => (FloatOps.absf (F := Ideal) (V (ValueIdx.ix3 t p x)) : EReal)) * Ideal.ofBits .f32 991054117#32 = amax (feat V t p) := rfl
  have hl : (Named.named (F := Ideal) κ "log2e" 1069066811#32 : Ideal .f32) = ((Real.log 2)⁻¹ : ℝ) := rfl
  refine (congrArg (fun z : EReal => if z = 0 then (0 : EReal) else min (Ideal.ofBits .f32 1123024896#32) (max (Ideal.ofBits .f32 3271294976#32)
    (Ideal.liftRound Int.floor (Ideal.log z * Named.named (F := Ideal) κ "log2e" 1069066811#32) + 1))) ha).trans ?_
  rw [hl]
  by_cases hz : amax (feat V t p) = 0
  · rw [if_pos hz]; unfold rexpo; rw [decide_eq_true hz]; rfl
  · rw [if_neg hz]; unfold rexpo; rw [decide_eq_false hz]; rfl

theorem pay7 (t : Fin 7) (p : Fin 256) : k0_pay7 v0 v4 v9 (ValueIdx.ix3 t p 0) = scale (amax (feat (k0_pay5 v0 v4 v9) t p)) := by
  have h := pay6 v0 v4 v9 t p
  unfold k0_pay7
  generalize k0_pay6 v0 v4 v9 = x at h ⊢
  pointwise
  rw [h]
  exact scale_ref _ (amax_nonneg _)

theorem pay8 (t : Fin 7) (p : Fin 256) (f : Fin 96) : k0_pay1 (F := Ideal) (Scalar.ofBits .f32 0x43E00000#32) (k0_pay8 v0 v4 v9) (ValueIdx.ix3 t p f) = quant (feat (k0_pay5 v0 v4 v9) t p) f := by
  have h := pay6 v0 v4 v9 t p
  unfold k0_pay1 k0_pay8
  generalize k0_pay6 v0 v4 v9 = x at h ⊢
  generalize k0_pay5 v0 v4 v9 = V at h ⊢
  pointwise
  unfold quant
  have hi := inv_ref _ (amax_nonneg (feat V t p))
  rw [← hi, ← h]
  rfl

theorem pay2 (x : FVec Ideal S7x256x1 .f32) (q : FVec Ideal S7x256x96 .f32) (dec : Vec Ideal S96x512 .fp8e4m3) (s b : Vec Ideal S1x512 .f32) (t : Fin 7) (p : Fin 256) (d : Fin 512) :
    k0_pay2 x (Scalar.ofBits .f32 0x43E00000#32) q dec s b (ValueIdx.ix3 t p d) =
      (∑ f : Fin 96, k0_pay1 (F := Ideal) (Scalar.ofBits .f32 0x43E00000#32) q (ValueIdx.ix3 t p f) * dec (ix2 f d)) * x (ValueIdx.ix3 t p 0) * s (ix2 0 d) + b (ix2 0 d) := by
  unfold k0_pay2
  generalize k0_pay1 (F := Ideal) (Scalar.ofBits .f32 0x43E00000#32) q = y
  pointwise
  rfl

theorem pay3 (q : FVec Ideal S7x256x96 .f32) (t : Fin 7) (p : Fin 256) (f : Fin 96) :
    k0_pay3 (Scalar.ofBits .f32 0x43E00000#32) q (ValueIdx.ix3 t f p) = k0_pay1 (F := Ideal) (Scalar.ofBits .f32 0x43E00000#32) q (ValueIdx.ix3 t p f) := by
  unfold k0_pay3
  generalize k0_pay1 (F := Ideal) (Scalar.ofBits .f32 0x43E00000#32) q = y
  pointwise
  rfl

theorem pay4 (x : FVec Ideal S7x256x1 .f32) (t : Fin 7) (p : Fin 256) : k0_pay4 x (ValueIdx.ix3 t 0 p) = x (ValueIdx.ix3 t p 0) := by
  unfold k0_pay4
  pointwise
  rfl

end Cert.ReferenceIdeal.Pay
-- ==== Proof.RefOut.lean ====
module

public import proofs.«01_k».proof.Proof.RefPrep
public import proofs.«01_k».proof.Proof.RefPay
public import Idealize.ShloMosaic.Lib.Pipeline.Value

/-! # The reference's results are the specification's -/

@[expose] public section

set_option maxRecDepth 65536

noncomputable section

namespace Cert.ReferenceIdeal.Out

open Cert.ReferenceIdeal Cert.ReferenceIdeal.Gen Cert.ReferenceIdeal.Value
open Idealize.ShloMosaic Idealize.ShloMosaic.TcCoe Idealize.SL Idealize.SL.Sem
open Cert.ReferenceIdeal.Host Cert.ReferenceIdeal.Pay
open Cert.Blend Cert.Decode Cert.Spec

variable (m : (ℓ : Loc nD τ sig) → Buf (Elt Ideal) ℓ)

/-- Every window is its whole array. -/
theorem idx_facts : ∀ t : Fin grid0.N, win0_0.index t (0 : Fin 3) = 0 ∧ win0_0.index t (1 : Fin 3) = 0 ∧ win0_0.index t (2 : Fin 3) = 0 ∧ win0_1.index t (0 : Fin 3) = 0 ∧ win0_1.index t (1 : Fin 3) = 0 ∧ win0_1.index t (2 : Fin 3) = 0 ∧ win0_2.index t (0 : Fin 3) = 0 ∧ win0_2.index t (1 : Fin 3) = 0 ∧ win0_2.index t (2 : Fin 3) = 0 ∧ win0_3.index t (0 : Fin 2) = 0 ∧ win0_3.index t (1 : Fin 2) = 0 ∧ win0_4.index t (0 : Fin 2) = 0 ∧ win0_4.index t (1 : Fin 2) = 0 ∧ win0_5.index t (0 : Fin 2) = 0 ∧ win0_5.index t (1 : Fin 2) = 0 ∧ win0_6.index t (0 : Fin 3) = 0 ∧ win0_6.index t (1 : Fin 3) = 0 ∧ win0_6.index t (2 : Fin 3) = 0 ∧ win0_7.index t (0 : Fin 3) = 0 ∧ win0_7.index t (1 : Fin 3) = 0 ∧ win0_7.index t (2 : Fin 3) = 0 ∧ win0_8.index t (0 : Fin 3) = 0 ∧ win0_8.index t (1 : Fin 3) = 0 ∧ win0_8.index t (2 : Fin 3) = 0 := by decide +kernel

theorem emb0 (t : Fin cfg0.N) (z : S7x24x12288.Idx) : ((cfg0.win 0).blk t).view.emb z = z := by
  obtain ⟨i0, i1, i2, _⟩ := idx_facts t
  funext x; apply Fin.ext
  match x with
  | ⟨0, _⟩ => show win0_0.index t (0 : Fin 3) * 7 + 1 * (z 0).val = (z 0).val; omega
  | ⟨1, _⟩ => show win0_0.index t (1 : Fin 3) * 24 + 1 * (z 1).val = (z 1).val; omega
  | ⟨2, _⟩ => show win0_0.index t (2 : Fin 3) * 12288 + 1 * (z 2).val = (z 2).val; omega

theorem emb1 (t : Fin cfg0.N) (z : S7x1x12288.Idx) : ((cfg0.win 1).blk t).view.emb z = z := by
  obtain ⟨_, _, _, i0, i1, i2, _⟩ := idx_facts t
  funext x; apply Fin.ext
  match x with
  | ⟨0, _⟩ => show win0_1.index t (0 : Fin 3) * 7 + 1 * (z 0).val = (z 0).val; omega
  | ⟨1, _⟩ => show win0_1.index t (1 : Fin 3) * 1 + 1 * (z 1).val = (z 1).val; omega
  | ⟨2, _⟩ => show win0_1.index t (2 : Fin 3) * 12288 + 1 * (z 2).val = (z 2).val; omega

theorem emb2 (t : Fin cfg0.N) (z : S7x256x12288.Idx) : ((cfg0.win 2).blk t).view.emb z = z := by
  obtain ⟨_, _, _, _, _, _, i0, i1, i2, _⟩ := idx_facts t
  funext x; apply Fin.ext
  match x with
  | ⟨0, _⟩ => show win0_2.index t (0 : Fin 3) * 7 + 1 * (z 0).val = (z 0).val; omega
  | ⟨1, _⟩ => show win0_2.index t (1 : Fin 3) * 256 + 1 * (z 1).val = (z 1).val; omega
  | ⟨2, _⟩ => show win0_2.index t (2 : Fin 3) * 12288 + 1 * (z 2).val = (z 2).val; omega

theorem emb3 (t : Fin cfg0.N) (z : S96x512.Idx) : ((cfg0.win 3).blk t).view.emb z = z := by
  obtain ⟨_, _, _, _, _, _, _, _, _, i0, i1, _⟩ := idx_facts t
  funext x; apply Fin.ext
  match x with
  | ⟨0, _⟩ => show win0_3.index t (0 : Fin 2) * 96 + 1 * (z 0).val = (z 0).val; omega
  | ⟨1, _⟩ => show win0_3.index t (1 : Fin 2) * 512 + 1 * (z 1).val = (z 1).val; omega

theorem emb4 (t : Fin cfg0.N) (z : S1x512.Idx) : ((cfg0.win 4).blk t).view.emb z = z := by
  obtain ⟨_, _, _, _, _, _, _, _, _, _, _, i0, i1, _⟩ := idx_facts t
  funext x; apply Fin.ext
  match x with
  | ⟨0, _⟩ => show win0_4.index t (0 : Fin 2) * 1 + 1 * (z 0).val = (z 0).val; omega
  | ⟨1, _⟩ => show win0_4.index t (1 : Fin 2) * 512 + 1 * (z 1).val = (z 1).val; omega

theorem emb5 (t : Fin cfg0.N) (z : S1x512.Idx) : ((cfg0.win 5).blk t).view.emb z = z := by
  obtain ⟨_, _, _, _, _, _, _, _, _, _, _, _, _, i0, i1, _⟩ := idx_facts t
  funext x; apply Fin.ext
  match x with
  | ⟨0, _⟩ => show win0_5.index t (0 : Fin 2) * 1 + 1 * (z 0).val = (z 0).val; omega
  | ⟨1, _⟩ => show win0_5.index t (1 : Fin 2) * 512 + 1 * (z 1).val = (z 1).val; omega

theorem emb6 (t : Fin cfg0.N) (z : S7x256x512.Idx) : ((cfg0.win 6).blk t).view.emb z = z := by
  obtain ⟨_, _, _, _, _, _, _, _, _, _, _, _, _, _, _, i0, i1, i2, _⟩ := idx_facts t
  funext x; apply Fin.ext
  match x with
  | ⟨0, _⟩ => show win0_6.index t (0 : Fin 3) * 7 + 1 * (z 0).val = (z 0).val; omega
  | ⟨1, _⟩ => show win0_6.index t (1 : Fin 3) * 256 + 1 * (z 1).val = (z 1).val; omega
  | ⟨2, _⟩ => show win0_6.index t (2 : Fin 3) * 512 + 1 * (z 2).val = (z 2).val; omega

theorem emb7 (t : Fin cfg0.N) (z : S7x96x256.Idx) : ((cfg0.win 7).blk t).view.emb z = z := by
  obtain ⟨_, _, _, _, _, _, _, _, _, _, _, _, _, _, _, _, _, _, i0, i1, i2, _⟩ := idx_facts t
  funext x; apply Fin.ext
  match x with
  | ⟨0, _⟩ => show win0_7.index t (0 : Fin 3) * 7 + 1 * (z 0).val = (z 0).val; omega
  | ⟨1, _⟩ => show win0_7.index t (1 : Fin 3) * 96 + 1 * (z 1).val = (z 1).val; omega
  | ⟨2, _⟩ => show win0_7.index t (2 : Fin 3) * 256 + 1 * (z 2).val = (z 2).val; omega

theorem emb8 (t : Fin cfg0.N) (z : S7x1x256.Idx) : ((cfg0.win 8).blk t).view.emb z = z := by
  obtain ⟨_, _, _, _, _, _, _, _, _, _, _, _, _, _, _, _, _, _, _, _, _, i0, i1, i2⟩ := idx_facts t
  funext x; apply Fin.ext
  match x with
  | ⟨0, _⟩ => show win0_8.index t (0 : Fin 3) * 7 + 1 * (z 0).val = (z 0).val; omega
  | ⟨1, _⟩ => show win0_8.index t (1 : Fin 3) * 1 + 1 * (z 1).val = (z 1).val; omega
  | ⟨2, _⟩ => show win0_8.index t (2 : Fin 3) * 256 + 1 * (z 2).val = (z 2).val; omega

/-- The arguments on a core. -/
abbrev W (c : Dev nD) : Valuation τ sig (Elt Ideal) := fun b => m (c, b)

theorem V_eq (c : Dev nD) (b : Ref sig .tc) : V m c b = st8 (W m c) b := congrFun (flat (W m c)) b

theorem iblk0_eq (c : Dev nD) (t : Fin cfg0.N) : iblk m c 0 t = st8 (W m c) main_v84 := by
  funext z
  show V m c main_v84 (((cfg0.win 0).blk t).view.emb z) = _
  rw [emb0]
  exact congrFun (V_eq m c main_v84) z

theorem iblk1_eq (c : Dev nD) (t : Fin cfg0.N) : iblk m c 1 t = st8 (W m c) main_v23 := by
  funext z
  show V m c main_v23 (((cfg0.win 1).blk t).view.emb z) = _
  rw [emb1]
  exact congrFun (V_eq m c main_v23) z

theorem iblk2_eq (c : Dev nD) (t : Fin cfg0.N) : iblk m c 2 t = st8 (W m c) main_v83 := by
  funext z
  show V m c main_v83 (((cfg0.win 2).blk t).view.emb z) = _
  rw [emb2]
  exact congrFun (V_eq m c main_v83) z

theorem iblk3_eq (c : Dev nD) (t : Fin cfg0.N) : iblk m c 3 t = st8 (W m c) main_arg3 := by
  funext z
  show V m c main_arg3 (((cfg0.win 3).blk t).view.emb z) = _
  rw [emb3]
  exact congrFun (V_eq m c main_arg3) z

theorem iblk4_eq (c : Dev nD) (t : Fin cfg0.N) : iblk m c 4 t = st8 (W m c) main_v85 := by
  funext z
  show V m c main_v85 (((cfg0.win 4).blk t).view.emb z) = _
  rw [emb4]
  exact congrFun (V_eq m c main_v85) z

theorem iblk5_eq (c : Dev nD) (t : Fin cfg0.N) : iblk m c 5 t = st8 (W m c) main_v86 := by
  funext z
  show V m c main_v86 (((cfg0.win 5).blk t).view.emb z) = _
  rw [emb5]
  exact congrFun (V_eq m c main_v86) z

theorem zero3 : (![0, 0, 0] : Fin 3 → Nat) = fun _ => 0 := by funext a; fin_cases a <;> rfl
theorem zero2 : (![0, 0] : Fin 2 → Nat) = fun _ => 0 := by funext a; fin_cases a <;> rfl

theorem out6_eq (x0 : Vec Ideal S7x24x12288 .i32) (x1 : Vec Ideal S7x1x12288 .f32) (x2 : Vec Ideal S7x256x12288 .bf16) (x3 : Vec Ideal S96x512 .fp8e4m3) (x4 x5 : Vec Ideal S1x512 .f32) :
    out0_6 x0 x1 x2 x3 x4 x5 = k0_pay2 (k0_pay7 x0 x1 x2) (Scalar.ofBits .f32 0x43E00000#32) (k0_pay8 x0 x1 x2) x3 x4 x5 := by
  have l0 : View.ld x0 r0_0 = x0 := View.ld_unit_zero zero3 _ _
  have l1 : View.ld x1 r0_1 = x1 := View.ld_unit_zero zero3 _ _
  have l2 : View.ld x2 r0_2 = x2 := View.ld_unit_zero zero3 _ _
  have l3 : View.ld x3 r0_3 = x3 := View.ld_unit_zero zero2 _ _
  have l4 : View.ld x4 r0_4 = x4 := View.ld_unit_zero zero2 _ _
  have l5 : View.ld x5 r0_4 = x5 := View.ld_unit_zero zero2 _ _
  unfold out0_6 k0_pay9 k0_pay10
  rw [l0, l1, l2, l3, l4, l5]
  exact View.canon_cons_unit_zero zero3 _ _ _

theorem out7_eq (x0 : Vec Ideal S7x24x12288 .i32) (x1 : Vec Ideal S7x1x12288 .f32) (x2 : Vec Ideal S7x256x12288 .bf16) (x3 : Vec Ideal S96x512 .fp8e4m3) (x4 x5 : Vec Ideal S1x512 .f32) :
    out0_7 x0 x1 x2 x3 x4 x5 = k0_pay3 (Scalar.ofBits .f32 0x43E00000#32) (k0_pay8 x0 x1 x2) := by
  have l0 : View.ld x0 r0_0 = x0 := View.ld_unit_zero zero3 _ _
  have l1 : View.ld x1 r0_1 = x1 := View.ld_unit_zero zero3 _ _
  have l2 : View.ld x2 r0_2 = x2 := View.ld_unit_zero zero3 _ _
  unfold out0_7 k0_pay10
  rw [l0, l1, l2]
  exact View.canon_cons_unit_zero zero3 _ _ _

theorem out8_eq (x0 : Vec Ideal S7x24x12288 .i32) (x1 : Vec Ideal S7x1x12288 .f32) (x2 : Vec Ideal S7x256x12288 .bf16) (x3 : Vec Ideal S96x512 .fp8e4m3) (x4 x5 : Vec Ideal S1x512 .f32) :
    out0_8 x0 x1 x2 x3 x4 x5 = k0_pay4 (k0_pay7 x0 x1 x2) := by
  have l0 : View.ld x0 r0_0 = x0 := View.ld_unit_zero zero3 _ _
  have l1 : View.ld x1 r0_1 = x1 := View.ld_unit_zero zero3 _ _
  have l2 : View.ld x2 r0_2 = x2 := View.ld_unit_zero zero3 _ _
  unfold out0_8 k0_pay9
  rw [l0, l1, l2]
  exact View.canon_cons_unit_zero zero3 _ _ _

/-- The one point. -/
def t0 : Fin cfg0.N := ⟨0, by decide⟩

theorem arr6 (c : Dev nD) (z : S7x256x512.Idx) : (dats m 0 c).arrAt 6 cfg0.N z = out0_6 (iblk m c 0 t0) (iblk m c 1 t0) (iblk m c 2 t0) (iblk m c 3 t0) (iblk m c 4 t0) (iblk m c 5 t0) z := by
  have b := congrFun ((blocks6 m c t0 (flush0_6 t0)).trans (flushed6 m c t0)) z
  have b' : (dats m 0 c).arrAt 6 cfg0.N (((cfg0.win 6).blk t0).view.emb z) = out0_6 (iblk m c 0 t0) (iblk m c 1 t0) (iblk m c 2 t0) (iblk m c 3 t0) (iblk m c 4 t0) (iblk m c 5 t0) z := b
  rw [← b', emb6]

theorem arr7 (c : Dev nD) (z : S7x96x256.Idx) : (dats m 0 c).arrAt 7 cfg0.N z = out0_7 (iblk m c 0 t0) (iblk m c 1 t0) (iblk m c 2 t0) (iblk m c 3 t0) (iblk m c 4 t0) (iblk m c 5 t0) z := by
  have b := congrFun ((blocks7 m c t0 (flush0_7 t0)).trans (flushed7 m c t0)) z
  have b' : (dats m 0 c).arrAt 7 cfg0.N (((cfg0.win 7).blk t0).view.emb z) = out0_7 (iblk m c 0 t0) (iblk m c 1 t0) (iblk m c 2 t0) (iblk m c 3 t0) (iblk m c 4 t0) (iblk m c 5 t0) z := b
  rw [← b', emb7]

theorem arr8 (c : Dev nD) (z : S7x1x256.Idx) : (dats m 0 c).arrAt 8 cfg0.N z = out0_8 (iblk m c 0 t0) (iblk m c 1 t0) (iblk m c 2 t0) (iblk m c 3 t0) (iblk m c 4 t0) (iblk m c 5 t0) z := by
  have b := congrFun ((blocks8 m c t0 (flush0_8 t0)).trans (flushed8 m c t0)) z
  have b' : (dats m 0 c).arrAt 8 cfg0.N (((cfg0.win 8).blk t0).view.emb z) = out0_8 (iblk m c 0 t0) (iblk m c 1 t0) (iblk m c 2 t0) (iblk m c 3 t0) (iblk m c 4 t0) (iblk m c 5 t0) z := b
  rw [← b', emb8]

/-- The arguments on a core, as vectors. -/
abbrev a0 (c : Dev nD) : Vec Ideal S7x2 .f32 := m ((c : Thread nD τ).loc main_arg0)
abbrev a1 (c : Dev nD) : Vec Ideal S7 .i32 := m ((c : Thread nD τ).loc main_arg1)
abbrev a2 (c : Dev nD) : Vec Ideal S32x86016 .i32 := m ((c : Thread nD τ).loc main_arg2)
abbrev a3 (c : Dev nD) : Vec Ideal S96x512 .fp8e4m3 := m ((c : Thread nD τ).loc main_arg3)
abbrev a4 (c : Dev nD) : Vec Ideal S512 .f32 := m ((c : Thread nD τ).loc main_arg4)
abbrev a5 (c : Dev nD) : Vec Ideal S512 .f32 := m ((c : Thread nD τ).loc main_arg5)

variable (c : Dev nD) (hg : Good (a0 m c) (a1 m c) (a2 m c))
include hg

/-- The features. -/
theorem feat_eq (t : Fin 7) (p : Fin 256) :
    feat (k0_pay5 (iblk m c 0 t0) (iblk m c 1 t0) (iblk m c 2 t0)) t p = feats (a0 m c) (a1 m c) (a2 m c) t p := by
  funext f
  refine (pay5 _ _ _ t p f).trans ?_
  unfold feats blend
  rw [iblk0_eq, iblk1_eq, iblk2_eq]
  rw [← Fin.sum_univ_eq_sum_range (fun i => Ideal.ofBits .fp8e4m3 (byteOf (slotW (a2 m c) t (f.val / 4) i) (f.val % 4)) * Ideal.ofBits .f32 (slotW (a2 m c) t 30 i)
    * ((alphaOf (W m c) t p i * trans (alphaOf (W m c) t p) i : ℝ) : EReal)) 12288]
  refine Finset.sum_congr rfl fun k _ => ?_
  have h1 := weight_eq (W m c) hg t p k
  have h2 := words_eq (W m c) t ⟨f.val / 4, by omega⟩ k
  have h3 := fs_eq (W m c) t k
  rw [h1, h2, h3, mul_comm]

theorem res6 (t : Fin 7) (p : Fin 256) (d : Fin 512) : (dats m 0 c).arrAt 6 cfg0.N (ValueIdx.ix3 t p d) =
    decoded (feats (a0 m c) (a1 m c) (a2 m c) t p) (fun f => a3 m c (ix2 f d)) (a4 m c (ix1 d)) (a5 m c (ix1 d)) := by
  have hF := feat_eq m c hg t p
  rw [arr6, out6_eq, pay2, pay7, hF]
  simp only [pay8, hF]
  have h3 : iblk m c 3 t0 = a3 m c := (iblk3_eq m c t0).trans (at8_arg3 (W m c))
  have h4 := (congrFun (iblk4_eq m c t0) (ix2 0 d)).trans (scale_eq (W m c) d)
  have h5 := (congrFun (iblk5_eq m c t0) (ix2 0 d)).trans (bias_eq (W m c) d)
  rw [h3, h4, h5]
  rfl

theorem res7 (t : Fin 7) (p : Fin 256) (f : Fin 96) : (dats m 0 c).arrAt 7 cfg0.N (ValueIdx.ix3 t f p) =
    quant (feats (a0 m c) (a1 m c) (a2 m c) t p) f := by
  rw [arr7, out7_eq, pay3, pay8, feat_eq m c hg t p]

theorem res8 (t : Fin 7) (p : Fin 256) : (dats m 0 c).arrAt 8 cfg0.N (ValueIdx.ix3 t 0 p) =
    scale (amax (feats (a0 m c) (a1 m c) (a2 m c) t p)) := by
  rw [arr8, out8_eq, pay4, pay7, feat_eq m c hg t p]

end Cert.ReferenceIdeal.Out
-- ==== Proof.Result.lean ====
/-
  The two programs' results agree: each is the specification of the arguments.
-/
module

public import proofs.«01_k».proof.Proof.KernelOut
public import proofs.«01_k».proof.Proof.RefOut
public import proofs.«01_k».proof.Proof.PreSlots
public import Idealize.ShloMosaic.Adequacy
public import Idealize.ShloMosaic.Init

@[expose] public section

set_option maxRecDepth 65536

noncomputable section

namespace Cert.Result

open Idealize.ShloMosaic Idealize.ShloMosaic.TcCoe Idealize.SL Idealize.SL.Sem Cert.Spec Cert.Decode

/-- The decoded values, of the arguments. -/
def res0 (a0 : Vec Ideal ⟨2, ![7, 2]⟩ .f32) (a1 : Vec Ideal ⟨1, ![7]⟩ .i32) (a2 : Vec Ideal ⟨2, ![32, 86016]⟩ .i32) (a3 : Vec Ideal ⟨2, ![96, 512]⟩ .fp8e4m3)
    (a4 a5 : Vec Ideal ⟨1, ![512]⟩ .f32) : Vec Ideal ⟨3, ![7, 256, 512]⟩ .bf16 :=
  fun z => decoded (feats a0 a1 a2 (z 0) (z 1)) (fun f => a3 (ix2 f (z 2))) (a4 (ix1 (z 2))) (a5 (ix1 (z 2)))

/-- The quantised features. -/
def res1 (a0 : Vec Ideal ⟨2, ![7, 2]⟩ .f32) (a1 : Vec Ideal ⟨1, ![7]⟩ .i32) (a2 : Vec Ideal ⟨2, ![32, 86016]⟩ .i32) : Vec Ideal ⟨3, ![7, 96, 256]⟩ .fp8e4m3 :=
  fun z => quant (feats a0 a1 a2 (z 0) (z 2)) (z 1)

/-- Their scales. -/
def res2 (a0 : Vec Ideal ⟨2, ![7, 2]⟩ .f32) (a1 : Vec Ideal ⟨1, ![7]⟩ .i32) (a2 : Vec Ideal ⟨2, ![32, 86016]⟩ .i32) : Vec Ideal ⟨3, ![7, 1, 256]⟩ .f32 :=
  fun z => scale (amax (feats a0 a1 a2 (z 0) (z 2)))

theorem eta3 {a b c : Nat} (z : Shape.Idx ⟨3, ![a, b, c]⟩) : z = ValueIdx.ix3 (z 0) (z 1) (z 2) := by
  funext x
  match x with
  | ⟨0, _⟩ => rfl
  | ⟨1, _⟩ => rfl
  | ⟨2, _⟩ => rfl

end Cert.Result

namespace Cert.KernelIdeal.Result

open Cert.KernelIdeal Cert.KernelIdeal.Gen Cert.KernelIdeal.Body Cert.KernelIdeal.Arr Cert.Result
open Idealize.ShloMosaic Idealize.ShloMosaic.TcCoe Idealize.SL Idealize.SL.Sem Cert.Spec Cert.Decode

variable (m : (ℓ : Loc nD τ sig) → Buf (Elt Ideal) ℓ) (hf : Fits m) (c : Dev nD) (hg : Good (a0 m c) (a1 m c) (a2 m c))
include hg

theorem res7 : (dats m hf 0 c).arrAt 7 cfg0.N = res0 (a0 m c) (a1 m c) (a2 m c) (a3 m c) (a4 m c) (a5 m c) := by
  funext z
  rw [eta3 z]
  exact (arr7 m hf c ⟨(z 0).val, (z 0).isLt⟩ (z 1) (z 2)).trans (outs7_eq m hf c _ hg (z 1) (z 2))

theorem res8 : (dats m hf 0 c).arrAt 8 cfg0.N = res1 (a0 m c) (a1 m c) (a2 m c) := by
  funext z
  rw [eta3 z]
  exact (arr8 m hf c ⟨(z 0).val, (z 0).isLt⟩ (z 1) (z 2)).trans (outs8_eq m hf c _ hg (z 1) (z 2))

theorem res9 : (dats m hf 0 c).arrAt 9 cfg0.N = res2 (a0 m c) (a1 m c) (a2 m c) := by
  funext z
  rw [eta3 z, show z 1 = (0 : Fin 1) from Subsingleton.elim (α := Fin 1) _ _]
  exact (arr9 m hf c ⟨(z 0).val, (z 0).isLt⟩ (z 2)).trans (outs9_eq m hf c _ hg (z 2))

end Cert.KernelIdeal.Result

namespace Cert.ReferenceIdeal.Result

open Cert.ReferenceIdeal Cert.ReferenceIdeal.Gen Cert.ReferenceIdeal.Out Cert.Result
open Idealize.ShloMosaic Idealize.ShloMosaic.TcCoe Idealize.SL Idealize.SL.Sem Cert.Spec Cert.Decode

variable (m : (ℓ : Loc nD τ sig) → Buf (Elt Ideal) ℓ) (c : Dev nD) (hg : Good (a0 m c) (a1 m c) (a2 m c))
include hg

theorem res6 : (dats m 0 c).arrAt 6 cfg0.N = res0 (a0 m c) (a1 m c) (a2 m c) (a3 m c) (a4 m c) (a5 m c) := by
  funext z
  rw [eta3 z]
  exact Out.res6 m c hg (z 0) (z 1) (z 2)

theorem res7 : (dats m 0 c).arrAt 7 cfg0.N = res1 (a0 m c) (a1 m c) (a2 m c) := by
  funext z
  rw [eta3 z]
  exact Out.res7 m c hg (z 0) (z 2) (z 1)

theorem res8 : (dats m 0 c).arrAt 8 cfg0.N = res2 (a0 m c) (a1 m c) (a2 m c) := by
  funext z
  rw [eta3 z, show z 1 = (0 : Fin 1) from Subsingleton.elim (α := Fin 1) _ _]
  exact Out.res8 m c hg (z 0) (z 2)

end Cert.ReferenceIdeal.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.BodyKernel
public import proofs.«01_k».proof.Proof.BodyKernelIdeal
public import proofs.«01_k».proof.Proof.Pre
public import proofs.«01_k».proof.Proof.PreSlots
public import proofs.«01_k».proof.Proof.Result
public import Idealize.ShloMosaic.Adequacy
public import Idealize.ShloMosaic.Init

@[expose] public section

noncomputable section

namespace Cert.Proof

open Idealize.ShloMosaic Idealize.SL.Sem Cert.Kernel

/-- From finite slots, the two programs end with the results the specification gives of the arguments. -/
theorem algebraic : algebraic_KernelIdeal_ReferenceIdeal_pre_slots_finite (hKernelIdeal := Cert.KernelIdeal.Gen.facts)
    (hReferenceIdeal := Cert.ReferenceIdeal.Gen.facts) (hPre_slots_finite := Cert.Pre.slotsFacts) := by
  intro m g m' g' hp ha
  have hf : Cert.KernelIdeal.Body.Fits m := fun c y => Cert.Pre.fits_of_pre _ _ _ _ _ _ (hp c) y
  have hg : ∀ c, Cert.Spec.Good (Cert.KernelIdeal.Arr.a0 m c) (Cert.KernelIdeal.Arr.a1 m c) (Cert.KernelIdeal.Arr.a2 m c) :=
    fun c => Cert.Pre.good_of_pre _ _ _ _ _ _ (hp c)
  refine ⟨fun c => Cert.Result.res0 (Cert.KernelIdeal.Arr.a0 m c) (Cert.KernelIdeal.Arr.a1 m c) (Cert.KernelIdeal.Arr.a2 m c)
      (Cert.KernelIdeal.Arr.a3 m c) (Cert.KernelIdeal.Arr.a4 m c) (Cert.KernelIdeal.Arr.a5 m c),
    fun c => Cert.Result.res1 (Cert.KernelIdeal.Arr.a0 m c) (Cert.KernelIdeal.Arr.a1 m c) (Cert.KernelIdeal.Arr.a2 m c),
    fun c => Cert.Result.res2 (Cert.KernelIdeal.Arr.a0 m c) (Cert.KernelIdeal.Arr.a1 m c) (Cert.KernelIdeal.Arr.a2 m c), ?_, ?_⟩
  · refine (θ_run _ _ _).mono (fun r h c => ?_) (θ_run_and (Cert.KernelIdeal.Body.run_main m g hf) (Cert.KernelIdeal.Body.frame m g hf))
    obtain ⟨h1, h2⟩ := h
    have e7 := ((h1 c).1 7).trans (Cert.KernelIdeal.Result.res7 m hf c (hg c))
    have e8 := ((h1 c).1 8).trans (Cert.KernelIdeal.Result.res8 m hf c (hg c))
    have e9 := ((h1 c).1 9).trans (Cert.KernelIdeal.Result.res9 m hf c (hg c))
    exact ⟨e7, e8, e9, h2.1 c⟩
  · refine (θ_run _ _ _).mono (fun r h c => ?_) (Cert.ReferenceIdeal.Value.run_blocks m' g')
    obtain ⟨h6, h7, h8, hargs⟩ := h c
    obtain ⟨b0, b1, b2, b3, b4, b5⟩ := ha c
    have c0 : Cert.ReferenceIdeal.Out.a0 m' c = Cert.KernelIdeal.Arr.a0 m c := b0
    have c1 : Cert.ReferenceIdeal.Out.a1 m' c = Cert.KernelIdeal.Arr.a1 m c := b1
    have c2 : Cert.ReferenceIdeal.Out.a2 m' c = Cert.KernelIdeal.Arr.a2 m c := b2
    have c3 : Cert.ReferenceIdeal.Out.a3 m' c = Cert.KernelIdeal.Arr.a3 m c := b3
    have c4 : Cert.ReferenceIdeal.Out.a4 m' c = Cert.KernelIdeal.Arr.a4 m c := b4
    have c5 : Cert.ReferenceIdeal.Out.a5 m' c = Cert.KernelIdeal.Arr.a5 m c := b5
    have hg' : Cert.Spec.Good (Cert.ReferenceIdeal.Out.a0 m' c) (Cert.ReferenceIdeal.Out.a1 m' c) (Cert.ReferenceIdeal.Out.a2 m' c) := by
      rw [c0, c1, c2]; exact hg c
    have e6 := h6.trans (Cert.ReferenceIdeal.Result.res6 m' c hg')
    have e7 := h7.trans (Cert.ReferenceIdeal.Result.res7 m' c hg')
    have e8 := h8.trans (Cert.ReferenceIdeal.Result.res8 m' c hg')
    rw [c0, c1, c2, c3, c4, c5] at e6
    rw [c0, c1, c2] at e7 e8
    exact ⟨e6, e7, e8, hargs⟩

theorem claim : Cert.Claim := ⟨Cert.Kernel.Gen.facts, Cert.KernelIdeal.Gen.facts, Cert.ReferenceIdeal.Gen.facts, Cert.Pre.lensFacts, Cert.Pre.slotsFacts,
  (fun m ρ h => Cert.Kernel.Body.frame m ρ fun c y => Cert.Pre.lens_of_pre _ _ _ _ _ _ (h c) y),
  (fun m ρ h => Cert.KernelIdeal.Body.frame m ρ fun c y => Cert.Pre.lens_of_pre _ _ _ _ _ _ (h c) y),
  (fun m ρ h => Cert.KernelIdeal.Body.frame m ρ fun c y => Cert.Pre.fits_of_pre _ _ _ _ _ _ (h c) y),
  (fun m ρ _ => Cert.ReferenceIdeal.Gen.frame m ρ),
  (fun m ρ _ => Cert.ReferenceIdeal.Gen.frame m ρ),
  ⟨IdealRules.named_const.statement _ _ _ _ _ rfl, IdealRules.named_const.statement _ _ _ _ _ rfl⟩,
  algebraic⟩

end Cert.Proof

end
